-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x4x512x512 : Shape := ⟨5, ![4, 1, 4, 512, 512]⟩
abbrev S4x4x512x512 : Shape := ⟨4, ![4, 4, 512, 512]⟩
abbrev S4x3x4x512x512 : Shape := ⟨5, ![4, 3, 4, 512, 512]⟩
abbrev S1x4x512x512 : Shape := ⟨4, ![1, 4, 512, 512]⟩
abbrev S1x3x4x128x512 : Shape := ⟨5, ![1, 3, 4, 128, 512]⟩
abbrev S1x4x128x512 : Shape := ⟨4, ![1, 4, 128, 512]⟩
abbrev S1x1x128x512 : Shape := ⟨4, ![1, 1, 128, 512]⟩
abbrev S128x512 : Shape := ⟨2, ![128, 512]⟩
abbrev S1x1x1x512 : Shape := ⟨4, ![1, 1, 1, 512]⟩
abbrev S1x512 : Shape := ⟨2, ![1, 512]⟩
abbrev S127x512 : Shape := ⟨2, ![127, 512]⟩
abbrev S128x1 : Shape := ⟨2, ![128, 1]⟩
abbrev S128x511 : Shape := ⟨2, ![128, 511]⟩
abbrev S1x1x1x128x512 : Shape := ⟨5, ![1, 1, 1, 128, 512]⟩
abbrev S4x1x3x4x512x512 : Shape := ⟨6, ![4, 1, 3, 4, 512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x1x4x512x512, .f32⟩
  | .hbm, ⟨1, _⟩ => ⟨S4x4x512x512, .f32⟩
  | .hbm, ⟨2, _⟩ => ⟨S4x3x4x512x512, .f32⟩
  | .hbm, ⟨3, _⟩ => ⟨S4x4x512x512, .f32⟩
  | .hbm, ⟨4, _⟩ => ⟨S4x1x3x4x512x512, .f32⟩
  | .hbm, ⟨5, _⟩ => ⟨S4x1x4x512x512, .f32⟩
  | .local _ .vmem, ⟨0, _⟩ => ⟨S1x4x512x512, .f32⟩
  | .local _ .vmem, ⟨1, _⟩ => ⟨S1x4x512x512, .f32⟩
  | .local _ .vmem, ⟨2, _⟩ => ⟨S1x3x4x128x512, .f32⟩
  | .local _ .vmem, ⟨3, _⟩ => ⟨S1x3x4x128x512, .f32⟩
  | .local _ .vmem, ⟨4, _⟩ => ⟨S1x4x128x512, .f32⟩
  | .local _ .vmem, ⟨5, _⟩ => ⟨S1x4x128x512, .f32⟩
  | _, _ => ⟨S4x1x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_off1 (i : grid0.Coords) : Fin 4 → Nat :=
  let c0 : Index := 0#32
  let c0_1 : Index := 0#32
  let arg1 : BitVec 32 := BitVec.ofNat 32 (i 1).val
  let c128_i32 : BitVec 32 := 128#32
  let v0 : BitVec 32 := Scalar.muli arg1 c128_i32
  let v5 : Index := Scalar.indexCast v0
  let c0_2 : Index := 0#32
  ![0, 0, v5.toNat, 0]
def k0_off2 (i : grid0.Coords) : Fin 4 → Nat :=
  let c0_3 : Index := 0#32
  let c0_4 : Index := 0#32
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let v8 : Index := Scalar.indexCast v2
  let c0_5 : Index := 0#32
  ![0, 0, v8.toNat, 0]
def k0_off3 (i : grid0.Coords) : Fin 4 → Nat :=
  let c0_6 : Index := 0#32
  let c0_7 : Index := 0#32
  let arg1 : BitVec 32 := BitVec.ofNat 32 (i 1).val
  let c128_i32 : BitVec 32 := 128#32
  let v0 : BitVec 32 := Scalar.muli arg1 c128_i32
  let c128_i32_0 : BitVec 32 := 128#32
  let v3 : BitVec 32 := Scalar.addi v0 c128_i32_0
  let c511_i32 : BitVec 32 := 511#32
  let v4 : BitVec 32 := Scalar.minsi v3 c511_i32
  let v11 : Index := Scalar.indexCast v4
  let c0_8 : Index := 0#32
  ![0, 0, v11.toNat, 0]
def k0_off4 (i : grid0.Coords) : Fin 4 → Nat :=
  let c0_9 : Index := 0#32
  let c1 : Index := 1#32
  let arg1 : BitVec 32 := BitVec.ofNat 32 (i 1).val
  let c128_i32 : BitVec 32 := 128#32
  let v0 : BitVec 32 := Scalar.muli arg1 c128_i32
  let v18 : Index := Scalar.indexCast v0
  let c0_10 : Index := 0#32
  ![0, 1, v18.toNat, 0]
def k0_off5 (i : grid0.Coords) : Fin 4 → Nat :=
  let c0_11 : Index := 0#32
  let c1_12 : Index := 1#32
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let v21 : Index := Scalar.indexCast v2
  let c0_13 : Index := 0#32
  ![0, 1, v21.toNat, 0]
def k0_off6 (i : grid0.Coords) : Fin 4 → Nat :=
  let c0_14 : Index := 0#32
  let c1_15 : Index := 1#32
  let arg1 : BitVec 32 := BitVec.ofNat 32 (i 1).val
  let c128_i32 : BitVec 32 := 128#32
  let v0 : BitVec 32 := Scalar.muli arg1 c128_i32
  let c128_i32_0 : BitVec 32 := 128#32
  let v3 : BitVec 32 := Scalar.addi v0 c128_i32_0
  let c511_i32 : BitVec 32 := 511#32
  let v4 : BitVec 32 := Scalar.minsi v3 c511_i32
  let v24 : Index := Scalar.indexCast v4
  let c0_16 : Index := 0#32
  ![0, 1, v24.toNat, 0]
def k0_off7 (i : grid0.Coords) : Fin 4 → Nat :=
  let c0_17 : Index := 0#32
  let c2 : Index := 2#32
  let arg1 : BitVec 32 := BitVec.ofNat 32 (i 1).val
  let c128_i32 : BitVec 32 := 128#32
  let v0 : BitVec 32 := Scalar.muli arg1 c128_i32
  let v31 : Index := Scalar.indexCast v0
  let c0_18 : Index := 0#32
  ![0, 2, v31.toNat, 0]
def k0_off8 (i : grid0.Coords) : Fin 4 → Nat :=
  let c0_19 : Index := 0#32
  let c2_20 : Index := 2#32
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let v34 : Index := Scalar.indexCast v2
  let c0_21 : Index := 0#32
  ![0, 2, v34.toNat, 0]
def k0_off9 (i : grid0.Coords) : Fin 4 → Nat :=
  let c0_22 : Index := 0#32
  let c2_23 : Index := 2#32
  let arg1 : BitVec 32 := BitVec.ofNat 32 (i 1).val
  let c128_i32 : BitVec 32 := 128#32
  let v0 : BitVec 32 := Scalar.muli arg1 c128_i32
  let c128_i32_0 : BitVec 32 := 128#32
  let v3 : BitVec 32 := Scalar.addi v0 c128_i32_0
  let c511_i32 : BitVec 32 := 511#32
  let v4 : BitVec 32 := Scalar.minsi v3 c511_i32
  let v37 : Index := Scalar.indexCast v4
  let c0_24 : Index := 0#32
  ![0, 2, v37.toNat, 0]
def k0_off10 (i : grid0.Coords) : Fin 4 → Nat :=
  let c0_25 : Index := 0#32
  let c3 : Index := 3#32
  let arg1 : BitVec 32 := BitVec.ofNat 32 (i 1).val
  let c128_i32 : BitVec 32 := 128#32
  let v0 : BitVec 32 := Scalar.muli arg1 c128_i32
  let v44 : Index := Scalar.indexCast v0
  let c0_26 : Index := 0#32
  ![0, 3, v44.toNat, 0]
def k0_off11 (i : grid0.Coords) : Fin 4 → Nat :=
  let c0_27 : Index := 0#32
  let c3_28 : Index := 3#32
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let v47 : Index := Scalar.indexCast v2
  let c0_29 : Index := 0#32
  ![0, 3, v47.toNat, 0]
def k0_off12 (i : grid0.Coords) : Fin 4 → Nat :=
  let c0_30 : Index := 0#32
  let c3_31 : Index := 3#32
  let arg1 : BitVec 32 := BitVec.ofNat 32 (i 1).val
  let c128_i32 : BitVec 32 := 128#32
  let v0 : BitVec 32 := Scalar.muli arg1 c128_i32
  let c128_i32_0 : BitVec 32 := 128#32
  let v3 : BitVec 32 := Scalar.addi v0 c128_i32_0
  let c511_i32 : BitVec 32 := 511#32
  let v4 : BitVec 32 := Scalar.minsi v3 c511_i32
  let v50 : Index := Scalar.indexCast v4
  let c0_32 : Index := 0#32
  ![0, 3, v50.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x4x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x1x4x512x512 : Shape := ⟨5, ![4, 1, 4, 512, 512]⟩
abbrev S3 : Shape := ⟨1, ![3]⟩
abbrev S4 : Shape := ⟨1, ![4]⟩
abbrev S512 : Shape := ⟨1, ![512]⟩
abbrev S4x512x512 : Shape := ⟨3, ![4, 512, 512]⟩
abbrev S4x512x512x1 : Shape := ⟨4, ![4, 512, 512, 1]⟩
abbrev S4x512x512x3 : Shape := ⟨4, ![4, 512, 512, 3]⟩
abbrev S1x4x512x512x3 : Shape := ⟨5, ![1, 4, 512, 512, 3]⟩
abbrev S1x3x4x512x512 : Shape := ⟨5, ![1, 3, 4, 512, 512]⟩
abbrev S4x1x1x512x512 : Shape := ⟨5, ![4, 1, 1, 512, 512]⟩
abbrev S4x1x6x512x512 : Shape := ⟨5, ![4, 1, 6, 512, 512]⟩
abbrev S4x1x6x1x512 : Shape := ⟨5, ![4, 1, 6, 1, 512]⟩
abbrev S4x1x6x514x512 : Shape := ⟨5, ![4, 1, 6, 514, 512]⟩
abbrev S4x1x6x514x1 : Shape := ⟨5, ![4, 1, 6, 514, 1]⟩
abbrev S4x1x6x514x514 : Shape := ⟨5, ![4, 1, 6, 514, 514]⟩
abbrev S_ : Shape := ⟨0, ![]⟩
abbrev S4x1x1x4x512x512 : Shape := ⟨6, ![4, 1, 1, 4, 512, 512]⟩
abbrev S4x1x3x4x512x512 : Shape := ⟨6, ![4, 1, 3, 4, 512, 512]⟩
abbrev S4x1x4x512x512x3 : Shape := ⟨6, ![4, 1, 4, 512, 512, 3]⟩
abbrev S4194304x3 : Shape := ⟨2, ![4194304, 3]⟩
abbrev S4x1x6x4x512x512 : Shape := ⟨6, ![4, 1, 6, 4, 512, 512]⟩
abbrev S4x1x4x512x512x6 : Shape := ⟨6, ![4, 1, 4, 512, 512, 6]⟩
abbrev S4194304x6 : Shape := ⟨2, ![4194304, 6]⟩
abbrev S4194304x1 : Shape := ⟨2, ![4194304, 1]⟩
abbrev S4194304 : Shape := ⟨1, ![4194304]⟩
abbrev S3x1 : Shape := ⟨2, ![3, 1]⟩
abbrev S1x1x3x4x512x512 : Shape := ⟨6, ![1, 1, 3, 4, 512, 512]⟩

abbrev nBuf : Space → Nat
  | .hbm => 251
  | .vmem => 0
  | .smem => 0
  | _ => 0

abbrev hbmTy0_0 (i : Nat) : BufTy := match i % 128 with
  | 0 => ⟨S4x1x4x512x512, .f32⟩
  | 1 => ⟨S3, .i32⟩
  | 2 => ⟨S4, .f32⟩
  | 3 => ⟨S512, .f32⟩
  | 4 => ⟨S512, .f32⟩
  | 5 => ⟨S4x512x512, .f32⟩
  | 6 => ⟨S4x512x512, .f32⟩
  | 7 => ⟨S4x512x512, .f32⟩
  | 8 => ⟨S4x512x512x1, .f32⟩
  | 9 => ⟨S4x512x512x1, .f32⟩
  | 10 => ⟨S4x512x512x1, .f32⟩
  | 11 => ⟨S4x512x512x3, .f32⟩
  | 12 => ⟨S4x512x512x3, .f32⟩
  | 13 => ⟨S1x4x512x512x3, .f32⟩
  | 14 => ⟨S1x3x4x512x512, .f32⟩
  | 15 => ⟨S4x1x1x512x512, .f32⟩
  | 16 => ⟨S4x1x1x512x512, .f32⟩
  | 17 => ⟨S4x1x6x512x512, .f32⟩
  | 18 => ⟨S4x1x6x1x512, .f32⟩
  | 19 => ⟨S4x1x6x1x512, .f32⟩
  | 20 => ⟨S4x1x6x514x512, .f32⟩
  | 21 => ⟨S4x1x6x514x1, .f32⟩
  | 22 => ⟨S4x1x6x514x1, .f32⟩
  | 23 => ⟨S4x1x6x514x514, .f32⟩
  | 24 => ⟨S4x1x4x512x512, .f32⟩
  | 25 => ⟨S4x1x4x512x512, .f32⟩
  | 26 => ⟨S4x1x4x512x512, .f32⟩
  | 27 => ⟨S_, .f32⟩
  | 28 => ⟨S4x1x4x512x512, .f32⟩
  | 29 => ⟨S4x1x4x512x512, .f32⟩
  | 30 => ⟨S4x1x4x512x512, .f32⟩
  | 31 => ⟨S4x1x4x512x512, .f32⟩
  | 32 => ⟨S4x1x4x512x512, .f32⟩
  | 33 => ⟨S_, .f32⟩
  | 34 => ⟨S4x1x4x512x512, .f32⟩
  | 35 => ⟨S4x1x4x512x512, .f32⟩
  | 36 => ⟨S4x1x4x512x512, .f32⟩
  | 37 => ⟨S4x1x4x512x512, .f32⟩
  | 38 => ⟨S4x1x4x512x512, .f32⟩
  | 39 => ⟨S_, .f32⟩
  | 40 => ⟨S4x1x4x512x512, .f32⟩
  | 41 => ⟨S4x1x4x512x512, .f32⟩
  | 42 => ⟨S4x1x1x4x512x512, .f32⟩
  | 43 => ⟨S4x1x1x4x512x512, .f32⟩
  | 44 => ⟨S4x1x1x4x512x512, .f32⟩
  | 45 => ⟨S4x1x3x4x512x512, .f32⟩
  | 46 => ⟨S4x1x4x512x512x3, .f32⟩
  | 47 => ⟨S4194304x3, .f32⟩
  | 48 => ⟨S4x1x1x512x512, .f32⟩
  | 49 => ⟨S4x1x1x512x512, .f32⟩
  | 50 => ⟨S4x1x6x512x512, .f32⟩
  | 51 => ⟨S4x1x6x1x512, .f32⟩
  | 52 => ⟨S4x1x6x1x512, .f32⟩
  | 53 => ⟨S4x1x6x514x512, .f32⟩
  | 54 => ⟨S4x1x6x514x1, .f32⟩
  | 55 => ⟨S4x1x6x514x1, .f32⟩
  | 56 => ⟨S4x1x6x514x514, .f32⟩
  | 57 => ⟨S4x1x4x512x512, .f32⟩
  | 58 => ⟨S4x1x4x512x512, .f32⟩
  | 59 => ⟨S4x1x4x512x512, .f32⟩
  | 60 => ⟨S4x1x4x512x512, .f32⟩
  | 61 => ⟨S_, .f32⟩
  | 62 => ⟨S4x1x4x512x512, .f32⟩
  | 63 => ⟨S4x1x4x512x512, .f32⟩
  | 64 => ⟨S4x1x4x512x512, .f32⟩
  | 65 => ⟨S4x1x4x512x512, .f32⟩
  | 66 => ⟨S4x1x4x512x512, .f32⟩
  | 67 => ⟨S4x1x4x512x512, .f32⟩
  | 68 => ⟨S_, .f32⟩
  | 69 => ⟨S4x1x4x512x512, .f32⟩
  | 70 => ⟨S4x1x4x512x512, .f32⟩
  | 71 => ⟨S4x1x4x512x512, .f32⟩
  | 72 => ⟨S4x1x4x512x512, .f32⟩
  | 73 => ⟨S4x1x4x512x512, .f32⟩
  | 74 => ⟨S4x1x4x512x512, .f32⟩
  | 75 => ⟨S_, .f32⟩
  | 76 => ⟨S4x1x4x512x512, .f32⟩
  | 77 => ⟨S4x1x4x512x512, .f32⟩
  | 78 => ⟨S4x1x4x512x512, .f32⟩
  | 79 => ⟨S4x1x4x512x512, .f32⟩
  | 80 => ⟨S4x1x4x512x512, .f32⟩
  | 81 => ⟨S4x1x4x512x512, .f32⟩
  | 82 => ⟨S4x1x4x512x512, .f32⟩
  | 83 => ⟨S4x1x4x512x512, .f32⟩
  | 84 => ⟨S4x1x4x512x512, .f32⟩
  | 85 => ⟨S4x1x4x512x512, .f32⟩
  | 86 => ⟨S4x1x4x512x512, .f32⟩
  | 87 => ⟨S4x1x4x512x512, .f32⟩
  | 88 => ⟨S4x1x4x512x512, .f32⟩
  | 89 => ⟨S4x1x4x512x512, .f32⟩
  | 90 => ⟨S4x1x4x512x512, .f32⟩
  | 91 => ⟨S4x1x4x512x512, .f32⟩
  | 92 => ⟨S4x1x4x512x512, .f32⟩
  | 93 => ⟨S4x1x4x512x512, .f32⟩
  | 94 => ⟨S4x1x4x512x512, .f32⟩
  | 95 => ⟨S4x1x4x512x512, .f32⟩
  | 96 => ⟨S4x1x4x512x512, .f32⟩
  | 97 => ⟨S4x1x4x512x512, .f32⟩
  | 98 => ⟨S4x1x4x512x512, .f32⟩
  | 99 => ⟨S4x1x4x512x512, .f32⟩
  | 100 => ⟨S4x1x1x4x512x512, .f32⟩
  | 101 => ⟨S4x1x1x4x512x512, .f32⟩
  | 102 => ⟨S4x1x1x4x512x512, .f32⟩
  | 103 => ⟨S4x1x1x4x512x512, .f32⟩
  | 104 => ⟨S4x1x1x4x512x512, .f32⟩
  | 105 => ⟨S4x1x1x4x512x512, .f32⟩
  | 106 => ⟨S4x1x6x4x512x512, .f32⟩
  | 107 => ⟨S4x1x4x512x512x6, .f32⟩
  | 108 => ⟨S4194304x6, .f32⟩
  | 109 => ⟨S4194304x1, .f32⟩
  | 110 => ⟨S4194304, .f32⟩
  | 111 => ⟨S4194304x1, .f32⟩
  | 112 => ⟨S4194304, .f32⟩
  | 113 => ⟨S4194304x1, .f32⟩
  | 114 => ⟨S4194304, .f32⟩
  | 115 => ⟨S4194304x1, .f32⟩
  | 116 => ⟨S4194304, .f32⟩
  | 117 => ⟨S_, .f32⟩
  | 118 => ⟨S4194304, .f32⟩
  | 119 => ⟨S4194304, .f32⟩
  | 120 => ⟨S4194304x1, .f32⟩
  | 121 => ⟨S4194304, .f32⟩
  | 122 => ⟨S_, .f32⟩
  | 123 => ⟨S4194304, .f32⟩
  | 124 => ⟨S4194304, .f32⟩
  | 125 => ⟨S4194304x1, .f32⟩
  | 126 => ⟨S4194304, .f32⟩
  | 127 => ⟨S_, .f32⟩
  | _ => ⟨S4x1x4x512x512, .f32⟩

abbrev hbmTy0_1 (i : Nat) : BufTy := match i % 128 with
  | 0 => ⟨S4194304, .f32⟩
  | 1 => ⟨S4194304, .f32⟩
  | 2 => ⟨S_, .f32⟩
  | 3 => ⟨S_, .f32⟩
  | 4 => ⟨S4x1x4x512x512, .f32⟩
  | 5 => ⟨S4x1x4x512x512, .i1⟩
  | 6 => ⟨S4194304, .i1⟩
  | 7 => ⟨S4194304, .f32⟩
  | 8 => ⟨S4194304, .f32⟩
  | 9 => ⟨S4194304, .f32⟩
  | 10 => ⟨S4194304, .f32⟩
  | 11 => ⟨S4194304, .f32⟩
  | 12 => ⟨S4194304, .f32⟩
  | 13 => ⟨S4194304, .f32⟩
  | 14 => ⟨S4194304, .f32⟩
  | 15 => ⟨S4194304, .f32⟩
  | 16 => ⟨S4194304, .f32⟩
  | 17 => ⟨S4194304, .f32⟩
  | 18 => ⟨S4194304, .f32⟩
  | 19 => ⟨S4194304, .f32⟩
  | 20 => ⟨S4194304, .f32⟩
  | 21 => ⟨S4194304, .f32⟩
  | 22 => ⟨S_, .f32⟩
  | 23 => ⟨S4194304, .f32⟩
  | 24 => ⟨S4194304, .i1⟩
  | 25 => ⟨S_, .f32⟩
  | 26 => ⟨S4194304, .f32⟩
  | 27 => ⟨S4194304, .f32⟩
  | 28 => ⟨S4194304x1, .f32⟩
  | 29 => ⟨S4194304, .f32⟩
  | 30 => ⟨S4194304x1, .f32⟩
  | 31 => ⟨S4194304, .f32⟩
  | 32 => ⟨S4194304x1, .f32⟩
  | 33 => ⟨S4194304, .f32⟩
  | 34 => ⟨S4194304, .f32⟩
  | 35 => ⟨S4194304, .f32⟩
  | 36 => ⟨S4194304, .f32⟩
  | 37 => ⟨S4194304, .f32⟩
  | 38 => ⟨S4194304, .f32⟩
  | 39 => ⟨S4194304, .f32⟩
  | 40 => ⟨S4194304, .f32⟩
  | 41 => ⟨S4194304, .f32⟩
  | 42 => ⟨S4194304, .f32⟩
  | 43 => ⟨S4194304, .f32⟩
  | 44 => ⟨S4194304, .f32⟩
  | 45 => ⟨S4194304, .f32⟩
  | 46 => ⟨S4194304, .f32⟩
  | 47 => ⟨S4194304, .f32⟩
  | 48 => ⟨S4194304, .f32⟩
  | 49 => ⟨S4194304, .f32⟩
  | 50 => ⟨S4194304, .f32⟩
  | 51 => ⟨S4194304, .f32⟩
  | 52 => ⟨S4194304, .f32⟩
  | 53 => ⟨S4194304, .f32⟩
  | 54 => ⟨S4194304, .f32⟩
  | 55 => ⟨S4194304, .f32⟩
  | 56 => ⟨S4194304, .f32⟩
  | 57 => ⟨S4194304, .f32⟩
  | 58 => ⟨S4194304, .f32⟩
  | 59 => ⟨S4194304, .f32⟩
  | 60 => ⟨S4194304, .f32⟩
  | 61 => ⟨S4194304, .f32⟩
  | 62 => ⟨S4194304, .f32⟩
  | 63 => ⟨S4194304, .f32⟩
  | 64 => ⟨S4194304, .f32⟩
  | 65 => ⟨S4194304, .f32⟩
  | 66 => ⟨S4194304, .f32⟩
  | 67 => ⟨S4194304, .f32⟩
  | 68 => ⟨S4194304, .f32⟩
  | 69 => ⟨S4194304, .f32⟩
  | 70 => ⟨S4194304, .i1⟩
  | 71 => ⟨S4194304x1, .f32⟩
  | 72 => ⟨S4194304x1, .f32⟩
  | 73 => ⟨S4194304x1, .f32⟩
  | 74 => ⟨S4194304x3, .f32⟩
  | 75 => ⟨S4194304x1, .i1⟩
  | 76 => ⟨S_, .f32⟩
  | 77 => ⟨S_, .f32⟩
  | 78 => ⟨S4194304x3, .i1⟩
  | 79 => ⟨S4194304x3, .f32⟩
  | 80 => ⟨S4194304x3, .f32⟩
  | 81 => ⟨S4194304x3, .f32⟩
  | 82 => ⟨S4194304x3, .f32⟩
  | 83 => ⟨S_, .f32⟩
  | 84 => ⟨S4194304, .f32⟩
  | 85 => ⟨S4194304x1, .f32⟩
  | 86 => ⟨S_, .f32⟩
  | 87 => ⟨S4194304x1, .f32⟩
  | 88 => ⟨S4194304x1, .i1⟩
  | 89 => ⟨S_, .f32⟩
  | 90 => ⟨S_, .f32⟩
  | 91 => ⟨S4194304x3, .i1⟩
  | 92 => ⟨S4194304x3, .f32⟩
  | 93 => ⟨S4194304x3, .f32⟩
  | 94 => ⟨S4194304x3, .f32⟩
  | 95 => ⟨S_, .f32⟩
  | 96 => ⟨S4194304, .f32⟩
  | 97 => ⟨S_, .f32⟩
  | 98 => ⟨S4194304, .f32⟩
  | 99 => ⟨S4194304, .f32⟩
  | 100 => ⟨S4x1x4x512x512, .f32⟩
  | 101 => ⟨S4x1x4x512x512, .f32⟩
  | 102 => ⟨S4x1x4x512x512, .i1⟩
  | 103 => ⟨S4x1x4x512x512, .f32⟩
  | 104 => ⟨S_, .f32⟩
  | 105 => ⟨S4x1x4x512x512, .f32⟩
  | 106 => ⟨S4x1x4x512x512, .f32⟩
  | 107 => ⟨S4x1x4x512x512, .f32⟩
  | 108 => ⟨S4194304x3, .f32⟩
  | 109 => ⟨S4x1x4x512x512x3, .f32⟩
  | 110 => ⟨S4x1x3x4x512x512, .f32⟩
  | 111 => ⟨S_, .i32⟩
  | 112 => ⟨S3, .i32⟩
  | 113 => ⟨S3, .i1⟩
  | 114 => ⟨S_, .i32⟩
  | 115 => ⟨S3, .i32⟩
  | 116 => ⟨S3, .i32⟩
  | 117 => ⟨S3, .i32⟩
  | 118 => ⟨S3x1, .i32⟩
  | 119 => ⟨S4x1x3x4x512x512, .f32⟩
  | 120 => ⟨S1x1x3x4x512x512, .f32⟩
  | 121 => ⟨S4x1x3x4x512x512, .f32⟩
  | 122 => ⟨S4x1x3x4x512x512, .f32⟩
  | _ => ⟨S4x1x4x512x512, .f32⟩

abbrev hbmTy (i : Nat) : BufTy := match i / 128 with
  | 0 => hbmTy0_0 i
  | 1 => hbmTy0_1 i
  | _ => ⟨S4x1x4x512x512, .f32⟩

abbrev bufTy : (tb : Table) → Fin (tcTables nBuf tb) → BufTy
  | .hbm, ⟨i, _⟩ => hbmTy i
  | _, _ => ⟨S4x1x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst_0 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_cst_2 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_cst_3 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_cst_4 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_cst_5 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_cst_6 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_cst_7 : Ref sig .tc := ⟨.hbm, 127, rfl⟩
abbrev main_v117 : Ref sig .tc := ⟨.hbm, 128, rfl⟩
abbrev main_v118 : Ref sig .tc := ⟨.hbm, 129, rfl⟩
abbrev main_cst_8 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_cst_9 : Ref sig .tc := ⟨.hbm, 150, rfl⟩
abbrev main_v138 : Ref sig .tc := ⟨.hbm, 151, rfl⟩
abbrev main_v139 : Ref sig .tc := ⟨.hbm, 152, rfl⟩
abbrev main_cst_10 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_cst_11 : Ref sig .tc := ⟨.hbm, 204, rfl⟩
abbrev main_call1_v0 : Ref sig .tc := ⟨.hbm, 205, rfl⟩
abbrev main_call1_v1 : Ref sig .tc := ⟨.hbm, 206, rfl⟩
abbrev main_call1_v2 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_cst_12 : Ref sig .tc := ⟨.hbm, 211, rfl⟩
abbrev main_v193 : Ref sig .tc := ⟨.hbm, 212, rfl⟩
abbrev main_v194 : Ref sig .tc := ⟨.hbm, 213, rfl⟩
abbrev main_cst_13 : Ref sig .tc := ⟨.hbm, 214, rfl⟩
abbrev main_v195 : Ref sig .tc := ⟨.hbm, 215, rfl⟩
abbrev main_v196 : Ref sig .tc := ⟨.hbm, 216, rfl⟩
abbrev main_cst_14 : Ref sig .tc := ⟨.hbm, 217, rfl⟩
abbrev main_call2_v0 : Ref sig .tc := ⟨.hbm, 218, rfl⟩
abbrev main_call2_v1 : Ref sig .tc := ⟨.hbm, 219, rfl⟩
abbrev main_call2_v2 : Ref sig .tc := ⟨.hbm, 220, rfl⟩
abbrev main_v197 : Ref sig .tc := ⟨.hbm, 221, rfl⟩
abbrev main_v198 : Ref sig .tc := ⟨.hbm, 222, rfl⟩
abbrev main_cst_15 : Ref sig .tc := ⟨.hbm, 223, rfl⟩
abbrev main_v199 : Ref sig .tc := ⟨.hbm, 224, rfl⟩
abbrev main_cst_16 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_cst_17 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_c_18 : Ref sig .tc := ⟨.hbm, 239, rfl⟩
abbrev main_v212 : Ref sig .tc := ⟨.hbm, 240, rfl⟩
abbrev main_v213 : Ref sig .tc := ⟨.hbm, 241, rfl⟩
abbrev main_c_19 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩

abbrev nD : Nat := 1
abbrev τ : Topo := Topo.v7x

variable {F : FTy → Type} [FloatOps F]
-- ==== Proof.Lanes.lean ====
module

public import proofs.«01_k».proof.Proof.Gen.KernelIdeal.Frame
public import Idealize.ShloMosaic.Lib.Pointwise

/-
  What one block of the kernel stores, written once for every depth: the quadratic fit over nine row planes (the
  row above, the row itself and the row below, at the depth before, the depth and the depth after), in the vector
  operations of the body.  `coordPieces` and `scorePieces` say that the twelve and the four stores of the body are this one
  function at the four depths.
-/

@[expose] public section

set_option maxRecDepth 16384

noncomputable section

namespace Cert.Proof.Lanes

open Idealize.ShloMosaic Idealize.ShloMosaic.TcCoe
open Cert.KernelIdeal Cert.KernelIdeal.Gen

variable {F : FTy → Type} [FloatOps F]

/-- One plane of 128 rows of 512 lanes. -/
abbrev Plane (F : FTy → Type) := FVec F S128x512 .f32

/-- The lane to the left, the first lane repeated. -/
def shl (a : Plane F) : Plane F :=
  concatenate S128x512 1 [⟨S128x1, extractStridedSlice S128x1 ![0, 0] a slices_S128x512_o0_0_S128x1⟩,
    ⟨S128x511, extractStridedSlice S128x511 ![0, 0] a slices_S128x512_o0_0_S128x511⟩] concatenates_S128x1_S128x511_S128x512_d1

/-- The lane to the right, the last lane repeated. -/
def shr (a : Plane F) : Plane F :=
  concatenate S128x512 1 [⟨S128x511, extractStridedSlice S128x511 ![0, 1] a slices_S128x512_o0_1_S128x511⟩,
    ⟨S128x1, extractStridedSlice S128x1 ![0, 511] a slices_S128x512_o0_511_S128x1⟩] concatenates_S128x511_S128x1_S128x512_d1

/-- A constant plane. -/
def lit (b : BitVec 32) : Plane F := broadcast S128x512 (Scalar.ofBits .f32 b)

/-- The three planes of one depth: the rows above, the rows, the rows below. -/
structure Slab (F : FTy → Type) where
  up : Plane F
  mid : Plane F
  dn : Plane F

/-- The three depths a block's fit reads. -/
structure Slabs (F : FTy → Type) where
  prev : Slab F
  cur : Slab F
  next : Slab F

namespace Slabs

variable (s : Slabs F)

def r0 : Plane F := mulf (lit 0x3F000000#32) (subf (shr s.cur.mid) (shl s.cur.mid))
def r1 : Plane F := mulf (lit 0x3F000000#32) (subf s.cur.dn s.cur.up)
def r2 : Plane F := mulf (lit 0x3F000000#32) (subf s.next.mid s.prev.mid)
def dxx : Plane F := subf (addf (shl s.cur.mid) (shr s.cur.mid)) (mulf (lit 0x40000000#32) s.cur.mid)
def dyy : Plane F := subf (addf s.cur.up s.cur.dn) (mulf (lit 0x40000000#32) s.cur.mid)
def dss : Plane F := subf (addf s.prev.mid s.next.mid) (mulf (lit 0x40000000#32) s.cur.mid)
def dxy : Plane F := mulf (lit 0x3E800000#32)
  (subf (subf (addf (shl s.cur.up) (shr s.cur.dn)) (shr s.cur.up)) (shl s.cur.dn))
def dys : Plane F := mulf (lit 0x3E800000#32)
  (subf (subf (addf (shl s.prev.mid) (shr s.next.mid)) (shr s.prev.mid)) (shl s.next.mid))
def dxs : Plane F := mulf (lit 0x3E800000#32) (subf (subf (addf s.prev.up s.next.dn) s.prev.dn) s.next.up)

/-- The largest of the nine planes, lane by lane. -/
def tall : Plane F :=
  maximumf (maximumf (maximumf (maximumf s.prev.up s.cur.up) s.next.up) (maximumf (maximumf s.prev.mid s.cur.mid) s.next.mid))
    (maximumf (maximumf s.prev.dn s.cur.dn) s.next.dn)

/-- Where the middle voxel is the largest of its twenty-seven neighbours. -/
def peak : IVec S128x512 1 := cmpf .oeq s.cur.mid (maximumf (maximumf s.tall (shl s.tall)) (shr s.tall))

def c00 : Plane F := subf (mulf s.dyy s.dss) (mulf s.dys s.dys)
def c01 : Plane F := subf (mulf s.dxy s.dss) (mulf s.dys s.dxs)
def c02 : Plane F := subf (mulf s.dxy s.dys) (mulf s.dyy s.dxs)
def det : Plane F := addf (subf (mulf s.dxx s.c00) (mulf s.dxy s.c01)) (mulf s.dxs s.c02)
def solved : IVec S128x512 1 := cmpf .ogt (absf s.det) (lit 0x00000000#32)
def inv : Plane F := divf (lit 0x3F800000#32) (select s.solved s.det (lit 0x3F800000#32))
def t1 : Plane F := subf (mulf s.r1 s.dss) (mulf s.dys s.r2)
def t2 : Plane F := subf (mulf s.dxy s.r2) (mulf s.r1 s.dxs)
def t3 : Plane F := subf (mulf s.r1 s.dys) (mulf s.dyy s.r2)
def sx : Plane F := mulf (addf (subf (mulf s.r0 s.c00) (mulf s.dxy s.t1)) (mulf s.dxs s.t3)) s.inv
def sy : Plane F := mulf (addf (subf (mulf s.dxx s.t1) (mulf s.r0 s.c01)) (mulf s.dxs s.t2)) s.inv
def ss : Plane F :=
  mulf (addf (subf (subf (lit 0x00000000#32) (mulf s.dxx s.t3)) (mulf s.dxy s.t2)) (mulf s.r0 s.c02)) s.inv

/-- Where the voxel is a peak whose fit has a solution. -/
def found : IVec S128x512 1 := andi s.peak s.solved

/-- Where the fit is used: found, and no component of the shift larger than 0.7. -/
def keep : IVec S128x512 1 :=
  andi s.found (xori (cmpf .ogt (maximumf (maximumf (absf s.sx) (absf s.sy)) (absf s.ss)) (lit 0x3F333333#32))
    (constantI S128x512 1 1#1))

/-- A component of the shift where the fit is used, zero elsewhere. -/
def shift (v : Plane F) : Plane F := select s.keep (subf (lit 0x00000000#32) v) (lit 0x00000000#32)

/-- The refined score. -/
def score : Plane F :=
  addf (addf s.cur.mid (mulf (lit 0x3F000000#32)
      (addf (addf (mulf s.r0 (s.shift s.sx)) (mulf s.r1 (s.shift s.sy))) (mulf s.r2 (s.shift s.ss)))))
    (mulf (lit 0x41200000#32) (sitofp .f32 (extui 32 s.found natLt_1_32)))

end Slabs

/-- The lane number of every lane, as a number. -/
def laneNo : Plane F := sitofp .f32 (iota .tc S128x512 32 [1] iota_S128x512_d1_w32)

/-- The row number in the whole picture of every row of a block that starts at row `b`, as a number. -/
def rowNo (b : BitVec 32) : Plane F :=
  sitofp .f32 (addi (iota .tc S128x512 32 [0] iota_S128x512_d0_w32) (broadcast S128x512 b))

/-- The first row of the block. -/
def base (i : grid0.Coords) : BitVec 32 := Scalar.muli (BitVec.ofNat 32 (i 1).val) 128#32
/-- The row above the block, the first row at the top of the picture. -/
def above (i : grid0.Coords) : BitVec 32 := Scalar.maxsi (Scalar.subi (base i) 1#32) 0#32
/-- The row below the block, the last row at the bottom of the picture. -/
def below (i : grid0.Coords) : BitVec 32 := Scalar.minsi (Scalar.addi (base i) 128#32) 511#32

theorem base_toNat (i : grid0.Coords) : (base i).toNat = 128 * (i 1).val := by
  have h : ∀ k : Fin 4, (Scalar.muli (BitVec.ofNat 32 k.val) 128#32).toNat = 128 * k.val := by decide
  exact h (i 1)

theorem above_toNat (i : grid0.Coords) : (above i).toNat = 128 * (i 1).val - 1 := by
  have h : ∀ k : Fin 4, (Scalar.maxsi (Scalar.subi (Scalar.muli (BitVec.ofNat 32 k.val) 128#32) 1#32) 0#32).toNat
      = 128 * k.val - 1 := by decide
  exact h (i 1)

theorem below_toNat (i : grid0.Coords) : (below i).toNat = min (128 * (i 1).val + 128) 511 := by
  have h : ∀ k : Fin 4, (Scalar.minsi (Scalar.addi (Scalar.muli (BitVec.ofNat 32 k.val) 128#32) 128#32) 511#32).toNat
      = min (128 * k.val + 128) 511 := by decide
  exact h (i 1)

/-- The rows of a load of `n` rows lie in the block. -/
theorem load_inb (d : Fin 4) (o n : ℕ) (h : o + n ≤ 512) (a : Fin 4) :
    (![0, d.val, o, 0] : Fin 4 → ℕ) a + (![1, 1, n, 512] : Fin 4 → ℕ) a ≤ S1x4x512x512.size a := by
  fin_cases a
  · show 0 + 1 ≤ 1; omega
  · show d.val + 1 ≤ 4; omega
  · show o + n ≤ 512; omega
  · show 0 + 512 ≤ 512; omega

theorem base_inb (i : grid0.Coords) : (base i).toNat + 128 ≤ 512 := by
  have := (i 1).isLt; rw [base_toNat]; change (i 1).val < 4 at this; omega
theorem above_inb (i : grid0.Coords) : (above i).toNat + 1 ≤ 512 := by
  have := (i 1).isLt; rw [above_toNat]; change (i 1).val < 4 at this; omega
theorem below_inb (i : grid0.Coords) : (below i).toNat + 1 ≤ 512 := by
  have := (i 1).isLt; rw [below_toNat]; change (i 1).val < 4 at this; omega

/-- The planes of one depth from the block's rows, the row above it and the row below it. -/
def slabOf (v : Vec F S1x1x128x512 .f32) (t b : Vec F S1x1x1x512 .f32) : Slab F where
  mid := shapeCast S128x512 v shapeCasts_S1x1x128x512_S128x512
  up := concatenate S128x512 0 [⟨S1x512, shapeCast S1x512 t shapeCasts_S1x1x1x512_S1x512⟩,
    ⟨S127x512, extractStridedSlice S127x512 ![0, 0] (shapeCast S128x512 v shapeCasts_S1x1x128x512_S128x512 : Plane F)
      slices_S128x512_o0_0_S127x512⟩] concatenates_S1x512_S127x512_S128x512_d0
  dn := concatenate S128x512 0 [⟨S127x512, extractStridedSlice S127x512 ![1, 0]
      (shapeCast S128x512 v shapeCasts_S1x1x128x512_S128x512 : Plane F) slices_S128x512_o1_0_S127x512⟩,
    ⟨S1x512, shapeCast S1x512 b shapeCasts_S1x1x1x512_S1x512⟩] concatenates_S127x512_S1x512_S128x512_d0

section Body

variable (i : grid0.Coords) (arg2 : Memref sig .tc .vmem S1x4x512x512 .f32) (harg2 : arg2.IsWhole) (x0 : Vec F S1x4x512x512 .f32)

/-- The planes of depth `d` as the body loads them. -/
def slabAt (d : Fin 4) : Slab F :=
  slabOf
    (View.readAt (Elt F) arg2.view (Rect.unit (s := S1x4x512x512) ![0, d.val, (base i).toNat, 0] S1x1x128x512.size
      (load_inb d _ 128 (base_inb i))).toLoadRect (harg2.unread x0))
    (View.readAt (Elt F) arg2.view (Rect.unit (s := S1x4x512x512) ![0, d.val, (above i).toNat, 0] S1x1x1x512.size
      (load_inb d _ 1 (above_inb i))).toLoadRect (harg2.unread x0))
    (View.readAt (Elt F) arg2.view (Rect.unit (s := S1x4x512x512) ![0, d.val, (below i).toNat, 0] S1x1x1x512.size
      (load_inb d _ 1 (below_inb i))).toLoadRect (harg2.unread x0))

/-- The three depths around depth `d`, the first and the last repeated. -/
def around (p d n : Fin 4) : Slabs F := ⟨slabAt i arg2 harg2 x0 p, slabAt i arg2 harg2 x0 d, slabAt i arg2 harg2 x0 n⟩

/-- The depth before. -/
def before (d : Fin 4) : Fin 4 := ⟨d.val - 1, by omega⟩
/-- The depth after. -/
def after (d : Fin 4) : Fin 4 := ⟨min (d.val + 1) 3, by omega⟩

/-- The planes the fit at depth `d` reads. -/
def slabsAt (d : Fin 4) : Slabs F := around i arg2 harg2 x0 (before d) d (after d)

variable (c : Dev nD) (arg3 : Memref sig .tc .vmem S1x3x4x128x512 .f32) (harg3 : arg3.IsWhole)
  (arg4 : Memref sig .tc .vmem S1x4x128x512 .f32) (harg4 : arg4.IsWhole)

/-- The bits of the depth number as a float. -/
def depthBits : Fin 4 → BitVec 32 := ![0x00000000#32, 0x3F800000#32, 0x40000000#32, 0x40400000#32]

/-- The three coordinates stored at depth `d`: depth, lane and row, each moved by its component of the shift. -/
def coord (d : Fin 4) : Fin 3 → Plane F :=
  let s := slabsAt i arg2 harg2 x0 d
  ![addf (lit (depthBits d)) (s.shift s.ss), addf laneNo (s.shift s.sx), addf (rowNo (base i)) (s.shift s.sy)]

theorem score_inb (d : Fin 4) (a : Fin 4) :
    (![0, d.val, 0, 0] : Fin 4 → ℕ) a + (![1, 1, 128, 512] : Fin 4 → ℕ) a ≤ S1x4x128x512.size a := by
  have := d.isLt
  fin_cases a <;> simp <;> omega

theorem coord_inb (d : Fin 4) (k : Fin 3) (a : Fin 5) :
    (![0, k.val, d.val, 0, 0] : Fin 5 → ℕ) a + (![1, 1, 1, 128, 512] : Fin 5 → ℕ) a ≤ S1x3x4x128x512.size a := by
  have := d.isLt
  have := k.isLt
  fin_cases a <;> simp <;> omega

/-- The store of the score of depth `d`. -/
def scorePiece (d : Fin 4) : View.Piece (Elt F) S1x4x128x512 .f32 :=
  ⟨Rect.unit ![0, d.val, 0, 0] ![1, 1, 128, 512] (score_inb d),
    shapeCast S1x1x128x512 (slabsAt i arg2 harg2 x0 d).score shapeCasts_S128x512_S1x1x128x512⟩

/-- The store of coordinate `k` of depth `d`. -/
def coordPiece (d : Fin 4) (k : Fin 3) : View.Piece (Elt F) S1x3x4x128x512 .f32 :=
  ⟨Rect.unit ![0, k.val, d.val, 0, 0] ![1, 1, 1, 128, 512] (coord_inb d k),
    shapeCast S1x1x1x128x512 (coord i arg2 harg2 x0 d k) shapeCasts_S128x512_S1x1x1x128x512⟩

/-- The body's four stores of scores are the one function at the four depths. -/
theorem scorePieces :
    (kernelRun0_A c i arg2 harg2 arg3 harg3 arg4 harg4 x0).2.1 = [3, 2, 1, 0].map (scorePiece i arg2 harg2 x0) := by
  sl_kernel_rfl

/-- The body's twelve stores of coordinates are the one function at the four depths and the three coordinates. -/
theorem coordPieces :
    (kernelRun0_A c i arg2 harg2 arg3 harg3 arg4 harg4 x0).1
      = [3, 2, 1, 0].flatMap fun d => [2, 1, 0].map (coordPiece i arg2 harg2 x0 d) := by
  sl_kernel_rfl

end Body

end Cert.Proof.Lanes

end
-- ==== Proof.Voxel.lean ====
module

public import Idealize.ShloMosaic.PureOps.Ideal
public import Idealize.ShloMosaic.Lib.Pointwise

/-
  One voxel: the refined score and shift as functions of the twenty-seven neighbours `n p q s` (depth, row, lane; `1` is
  the voxel itself, `0` the one before, `2` the one after), over the extended reals, as the kernel computes them and as
  the reference does, and the proof that the two agree for every neighbourhood.
-/

@[expose] public section

noncomputable section

namespace Cert.Proof.Voxel

open Idealize.ShloMosaic

/-- The voxels around one, by depth, row and lane. -/
abbrev Nbrs := Fin 3 → Fin 3 → Fin 3 → EReal

/-- The value of a 32-bit pattern. -/
abbrev val (b : BitVec 32) : EReal := Ideal.ofBits .f32 b

/-- The absolute value. -/
def abs (x : EReal) : EReal := max x (-x)

section Shared

variable (n : Nbrs)

def r0 : EReal := val 0x3F000000#32 * (n 1 1 2 - n 1 1 0)
def r1 : EReal := val 0x3F000000#32 * (n 1 2 1 - n 1 0 1)
def r2 : EReal := val 0x3F000000#32 * (n 2 1 1 - n 0 1 1)
def dxx : EReal := n 1 1 0 + n 1 1 2 - val 0x40000000#32 * n 1 1 1
def dyy : EReal := n 1 0 1 + n 1 2 1 - val 0x40000000#32 * n 1 1 1
def dss : EReal := n 0 1 1 + n 2 1 1 - val 0x40000000#32 * n 1 1 1
def m3 : EReal := n 1 0 0 + n 1 2 2 - n 1 0 2 - n 1 2 0
def m4 : EReal := n 0 1 0 + n 2 1 2 - n 0 1 2 - n 2 1 0
def m5 : EReal := n 0 0 1 + n 2 2 1 - n 0 2 1 - n 2 0 1
def dxy : EReal := val 0x3E800000#32 * m3 n
def dys : EReal := val 0x3E800000#32 * m4 n
def dxs : EReal := val 0x3E800000#32 * m5 n
def c00 : EReal := dyy n * dss n - dys n * dys n
def c01 : EReal := dxy n * dss n - dys n * dxs n
def c02 : EReal := dxy n * dys n - dyy n * dxs n
def det : EReal := dxx n * c00 n - dxy n * c01 n + dxs n * c02 n
def solved : BitVec 1 := Ideal.cmp .ogt (abs (det n)) (val 0x00000000#32)
def den : EReal := Scalar.select (solved n) (det n) (val 0x3F800000#32)
def t1 : EReal := r1 n * dss n - dys n * r2 n
def t2 : EReal := dxy n * r2 n - r1 n * dxs n
def t3 : EReal := r1 n * dys n - dyy n * r2 n

/-- The largest of the nine voxels of one lane. -/
def tall (s : Fin 3) : EReal :=
  max (max (max (max (n 0 0 s) (n 1 0 s)) (n 2 0 s)) (max (max (n 0 1 s) (n 1 1 s)) (n 2 1 s)))
    (max (max (n 0 2 s) (n 1 2 s)) (n 2 2 s))

/-- The largest of the twenty-seven. -/
def big : EReal := max (max (tall n 1) (tall n 0)) (tall n 2)

/-- Whether the voxel is the largest. -/
def peak : BitVec 1 := Ideal.cmp .oeq (n 1 1 1) (big n)

/-- Whether the voxel is the largest and the fit has a solution. -/
def found : BitVec 1 := peak n &&& solved n

def numx : EReal := r0 n * c00 n - dxy n * t1 n + dxs n * t3 n
def numy : EReal := dxx n * t1 n - r0 n * c01 n + dxs n * t2 n

end Shared

/-! ### As the kernel computes it -/

section Ker

variable (n : Nbrs)

def kinv : EReal := Ideal.div (val 0x3F800000#32) (den n)
def ksx : EReal := numx n * kinv n
def ksy : EReal := numy n * kinv n
def kss : EReal := (val 0x00000000#32 - dxx n * t3 n - dxy n * t2 n + r0 n * c02 n) * kinv n
def kkeep : BitVec 1 :=
  found n &&& (Ideal.cmp .ogt (max (max (abs (ksx n)) (abs (ksy n))) (abs (kss n))) (val 0x3F333333#32) ^^^ 1#1)
def kshift (v : EReal) : EReal := Scalar.select (kkeep n) (val 0x00000000#32 - v) (val 0x00000000#32)
def kscore : EReal :=
  n 1 1 1 + val 0x3F000000#32 * (r0 n * kshift n (ksx n) + r1 n * kshift n (ksy n) + r2 n * kshift n (kss n))
    + val 0x41200000#32 * ((((found n).setWidth 32).toInt : ℝ) : EReal)

end Ker

/-! ### As the reference computes it -/

section Ref

variable (n : Nbrs)

def rsx : EReal := Ideal.div (numx n) (den n)
def rsy : EReal := Ideal.div (numy n) (den n)
def rss : EReal :=
  Ideal.div (dxx n * (dyy n * r2 n - r1 n * dys n) - dxy n * t2 n + r0 n * c02 n) (den n)

/-- The solution, lane, row and depth. -/
def sol : Fin 3 → EReal := ![rsx n, rsy n, rss n]

/-- The shift before large ones are dropped. -/
def raw (k : Fin 3) : EReal := -(Scalar.select (found n) (sol n k) (val 0x00000000#32))

/-- The largest component of the shift. -/
def reach : EReal := max (max (abs (raw n 0)) (abs (raw n 1))) (abs (raw n 2))

/-- The shift, the ones that reach further than 0.7 dropped. -/
def rshift (k : Fin 3) : EReal :=
  Scalar.select (Ideal.cmp .ogt (reach n) (val 0x3F333333#32)) (val 0x00000000#32) (raw n k)

def rscore : EReal :=
  n 1 1 1 + val 0x3F000000#32 * (r0 n * rshift n 0 + r1 n * rshift n 1 + r2 n * rshift n 2)
    + val 0x41200000#32 * (((found n).toNat : ℝ) : EReal)

end Ref

/-! ### The two agree -/

/-- Something is over the largest of the twenty-seven exactly when it is over each of them. -/
theorem big_le_iff (n : Nbrs) (z : EReal) : big n ≤ z ↔ ∀ p q s, n p q s ≤ z := by
  simp only [big, tall, max_le_iff, Fin.forall_fin_succ, Fin.forall_fin_zero_pi, IsEmpty.forall_iff]
  simp
  tauto

theorem val_zero : val 0x00000000#32 = 0 := Ideal.ofBits_zero_f32
theorem val_one : val 0x3F800000#32 = 1 := Ideal.ofBits_one_f32

/-- The bound on the shift is a positive real. -/
theorem val_bound : ∃ b : ℝ, 0 < b ∧ val 0x3F333333#32 = (b : EReal) := by
  refine ⟨11744051 / 16777216, by norm_num, ?_⟩
  simp [val, Ideal.ofBits, Ideal.ieee, -EReal.coe_mul]; norm_num

theorem bit_cases (b : BitVec 1) : b = 0#1 ∨ b = 1#1 := by
  have h : ∀ b : BitVec 1, b = 0#1 ∨ b = 1#1 := by decide
  exact h b

theorem abs_neg (x : EReal) : abs (-x) = abs x := by simp [abs, max_comm]
theorem abs_zero : abs 0 = 0 := by simp [abs]
theorem abs_of_infinite {x : EReal} (h : x = ⊤ ∨ x = ⊥) : abs x = ⊤ := by rcases h with rfl | rfl <;> simp [abs]

/-- The divisor is never zero. -/
theorem den_ne_zero (n : Nbrs) : den n ≠ 0 := by
  unfold den
  rcases bit_cases (solved n) with h | h
  · rw [h, val_one]; simp [Scalar.select]
  · rw [h]
    have h' := h
    simp only [solved, Ideal.cmp, val_zero] at h'
    intro h0
    have h1 : det n = 0 := by simpa [Scalar.select] using h0
    simp [h1, abs_zero] at h'

theorem div_den (n : Nbrs) (x : EReal) : Ideal.div x (den n) = x * (den n)⁻¹ := by
  rw [Ideal.div, if_neg (den_ne_zero n)]

theorem kinv_eq (n : Nbrs) : kinv n = (den n)⁻¹ := by
  rw [kinv, div_den, val_one, one_mul]

/-- An infinite numerator over a divisor that is not zero is infinite, or zero where the divisor is infinite. -/
theorem infinite_mul_inv {d : EReal} (hd : d ≠ 0) :
    (d⁻¹ = 0) ∨ ∀ x : EReal, (x = ⊤ ∨ x = ⊥) → (x * d⁻¹ = ⊤ ∨ x * d⁻¹ = ⊥) := by
  induction d with
  | bot => left; simp
  | top => left; simp
  | coe d =>
    right
    have hd' : d ≠ 0 := by simpa using hd
    have e : ((d : EReal))⁻¹ = ((d⁻¹ : ℝ) : EReal) := (EReal.coe_inv d).symm
    have hne : d⁻¹ ≠ 0 := inv_ne_zero hd'
    intro x hx
    rw [e]
    rcases lt_or_gt_of_ne hne with h | h <;> rcases hx with rfl | rfl
    · right; exact EReal.top_mul_coe_of_neg h
    · left; exact EReal.bot_mul_coe_of_neg h
    · left; exact EReal.top_mul_coe_of_pos h
    · right; exact EReal.bot_mul_coe_of_pos h

/-- A sum with an infinite term is infinite. -/
theorem infinite_add {x : EReal} (y : EReal) (h : x = ⊤ ∨ x = ⊥) : x + y = ⊤ ∨ x + y = ⊥ := by
  rcases h with rfl | rfl
  · by_cases hy : y = ⊥
    · right; simp [hy]
    · left; exact EReal.top_add_of_ne_bot hy
  · right; simp

/-- A product of two numbers neither of which is zero, one of them infinite, is infinite. -/
theorem mul_bot_infinite {a : EReal} (h : a ≠ 0) : a * ⊥ = ⊤ ∨ a * ⊥ = ⊥ := by
  rcases lt_or_gt_of_ne h with h | h
  · left; exact EReal.mul_bot_of_neg h
  · right; exact EReal.mul_bot_of_pos h

/-- The depth component of the shift: the two ways to write its numerator give the same, or both are infinite. -/
theorem depth_eq_or (a u v B C d : EReal) (hd : d ≠ 0) :
    (0 - a * (v - u) - B + C) * d⁻¹ = (a * (u - v) - B + C) * d⁻¹
      ∨ (abs ((0 - a * (v - u) - B + C) * d⁻¹) = ⊤ ∧ abs ((a * (u - v) - B + C) * d⁻¹) = ⊤) := by
  have key : u - v = -(v - u) ∨ (u - v = ⊥ ∧ v - u = ⊥) := by
    induction u <;> induction v <;> simp [sub_eq_add_neg]
    norm_cast
    ring
  rcases key with key | ⟨h1, h2⟩
  · left; rw [key, mul_neg, zero_sub]
  · rw [h1, h2]
    by_cases ha : a = 0
    · left; simp [ha]
    · have i1 : a * ⊥ - B + C = ⊤ ∨ a * ⊥ - B + C = ⊥ := by
        rw [sub_eq_add_neg]; exact infinite_add _ (infinite_add _ (mul_bot_infinite ha))
      have i2 : 0 - a * ⊥ - B + C = ⊤ ∨ 0 - a * ⊥ - B + C = ⊥ := by
        rw [sub_eq_add_neg, zero_sub]
        refine infinite_add _ (infinite_add _ ?_)
        rcases mul_bot_infinite ha with h | h <;> simp [h]
      rcases infinite_mul_inv hd with h | h
      · left; simp [h]
      · right; exact ⟨abs_of_infinite (h _ i2), abs_of_infinite (h _ i1)⟩

theorem ksx_eq (n : Nbrs) : ksx n = rsx n := by rw [ksx, rsx, div_den, kinv_eq]
theorem ksy_eq (n : Nbrs) : ksy n = rsy n := by rw [ksy, rsy, div_den, kinv_eq]
theorem kss_eq_or (n : Nbrs) : kss n = rss n ∨ (abs (kss n) = ⊤ ∧ abs (rss n) = ⊤) := by
  rw [kss, rss, div_den, kinv_eq, val_zero, t3]
  exact depth_eq_or _ _ _ _ _ _ (den_ne_zero n)

/-- A kernel's component of the shift, where the fit is not found, found but too far, found and near. -/
theorem kshift_cases (n : Nbrs) (v : EReal) :
    kshift n v = if found n = 1#1 ∧ ¬ (val 0x3F333333#32 < max (max (abs (ksx n)) (abs (ksy n))) (abs (kss n))) then -v else 0 := by
  unfold kshift kkeep
  rw [val_zero, zero_sub]
  rcases bit_cases (found n) with h | h <;> rw [h]
  · simp [Scalar.select]
  · by_cases h' : val 0x3F333333#32 < max (max (abs (ksx n)) (abs (ksy n))) (abs (kss n)) <;>
      simp [Scalar.select, Ideal.cmp, h']

/-- The reference's component of the shift, likewise. -/
theorem rshift_cases (n : Nbrs) (k : Fin 3) :
    rshift n k = if found n = 1#1 ∧ ¬ (val 0x3F333333#32 < max (max (abs (rsx n)) (abs (rsy n))) (abs (rss n))) then -(sol n k) else 0 := by
  obtain ⟨b, hb, hv⟩ := val_bound
  unfold rshift reach raw
  rw [val_zero]
  rcases bit_cases (found n) with h | h <;> rw [h]
  · simp [Scalar.select]
  · have hs : ∀ x : EReal, Scalar.select 1#1 x 0 = x := fun x => by simp [Scalar.select]
    simp only [hs, abs_neg]
    have e0 : sol n 0 = rsx n := rfl
    have e1 : sol n 1 = rsy n := rfl
    have e2 : sol n 2 = rss n := rfl
    rw [e0, e1, e2]
    by_cases h' : val 0x3F333333#32 < max (max (abs (rsx n)) (abs (rsy n))) (abs (rss n)) <;>
      simp [Scalar.select, Ideal.cmp, h']

/-- The kernel's solution, lane, row and depth. -/
def ksol (n : Nbrs) : Fin 3 → EReal := ![ksx n, ksy n, kss n]

/-- The two shifts are the same, component by component. -/
theorem shift_eq (n : Nbrs) (k : Fin 3) : kshift n (ksol n k) = rshift n k := by
  rw [kshift_cases, rshift_cases]
  rcases kss_eq_or n with h | ⟨hk, hr⟩
  · rw [ksx_eq, ksy_eq, h, show ksol n = sol n by unfold ksol sol; rw [ksx_eq, ksy_eq, h]]
  · obtain ⟨b, hb, hv⟩ := val_bound
    rw [hk, hr, hv]
    simp

/-- The two scores are the same. -/
theorem score_eq (n : Nbrs) : kscore n = rscore n := by
  have e : (((found n).setWidth 32).toInt : ℝ) = ((found n).toNat : ℝ) := by
    rcases bit_cases (found n) with h | h <;> rw [h] <;> simp
  have h0 := shift_eq n 0
  have h1 := shift_eq n 1
  have h2 := shift_eq n 2
  simp only [ksol, Matrix.cons_val_zero, Matrix.cons_val_one, Matrix.cons_val] at h0 h1 h2
  rw [kscore, rscore, h0, h1, h2, e]

end Cert.Proof.Voxel

end
-- ==== Proof.Want.lean ====
module

public import proofs.«01_k».proof.Proof.Voxel

/-
  What both programs compute, as functions of the input picture: the score and the coordinates of every voxel, from
  its neighbours kept inside the picture.
-/

@[expose] public section

noncomputable section

namespace Cert.Proof

open Idealize.ShloMosaic

/-- The neighbour of `x` below `n`: before, itself or after, kept inside. -/
def near {n : ℕ} (x : Fin n) (p : Fin 3) : Fin n := ⟨min (x.val + p.val - 1) (n - 1), by have := x.isLt; omega⟩

theorem near_val {n : ℕ} (x : Fin n) (p : Fin 3) : (near x p).val = min (x.val + p.val - 1) (n - 1) := rfl

theorem near_one {n : ℕ} (x : Fin n) : near x 1 = x := by
  apply Fin.ext
  have := x.isLt
  show min (x.val + 1 - 1) (n - 1) = x.val
  omega

/-- The neighbours of a voxel of a picture of four depths, kept inside the picture. -/
def nb (g : Fin 4 → Fin 512 → Fin 512 → EReal) (d : Fin 4) (h w : Fin 512) : Voxel.Nbrs :=
  fun p q k => g (near d p) (near h q) (near w k)

/-- The three numbers of a voxel's place: depth, lane and row. -/
def place (d : Fin 4) (h w : Fin 512) : Fin 3 → EReal := ![((d.val : ℝ) : EReal), ((w.val : ℝ) : EReal), ((h.val : ℝ) : EReal)]

/-- The component of the shift that belongs to each of depth, lane and row. -/
def comp : Fin 3 → Fin 3 := ![2, 0, 1]

/-- Arrays of 4 pictures of 4 depths of 512 rows of 512 lanes. -/
abbrev Pictures : Shape := ⟨5, ![4, 1, 4, 512, 512]⟩
/-- Arrays of three numbers for each of their voxels. -/
abbrev Triples : Shape := ⟨6, ![4, 1, 3, 4, 512, 512]⟩

/-- Picture `b` of the input. -/
def scene (X : Pictures.Idx → EReal) (b : Fin 4) : Fin 4 → Fin 512 → Fin 512 → EReal := fun d h w => X (ix5 b 0 d h w)

/-- The score of a voxel. -/
def scoreAt (X : Pictures.Idx → EReal) (b d : Fin 4) (h w : Fin 512) : EReal := Voxel.rscore (nb (scene X b) d h w)

/-- A coordinate of a voxel: its place moved by its component of the shift. -/
def coordAt (X : Pictures.Idx → EReal) (b : Fin 4) (k : Fin 3) (d : Fin 4) (h w : Fin 512) : EReal :=
  place d h w k + Voxel.rshift (nb (scene X b) d h w) (comp k)

/-- The array of scores. -/
def wantScore (X : Pictures.Idx → EReal) : Pictures.Idx → EReal := fun y => scoreAt X (y 0) (y 2) (y 3) (y 4)

/-- The array of coordinates. -/
def wantCoord (X : Pictures.Idx → EReal) : Triples.Idx → EReal := fun y => coordAt X (y 0) (y 2) (y 3) (y 4) (y 5)

end Cert.Proof

end
-- ==== Proof.Block.lean ====
module

public import proofs.«01_k».proof.Proof.Lanes
public import proofs.«01_k».proof.Proof.Want
public import Idealize.ShloMosaic.Lib.WholeRead
public import proofs.«01_k».proof.Proof.Gen.KernelIdeal.Frame

/-
  What one block of the kernel computes, read at a row and a lane: the planes the body loads and shifts are the picture's
  voxels at neighbours kept inside the picture, and the stored score and coordinates are the voxel function of
  those neighbours.
-/

@[expose] public section

set_option maxRecDepth 16384

noncomputable section

namespace Cert.Proof.Lanes

open Idealize.ShloMosaic Idealize.ShloMosaic.TcCoe
open Cert.KernelIdeal Cert.KernelIdeal.Gen

theorem before_eq (d : Fin 4) : before d = near d 0 := by
  apply Fin.ext; have := d.isLt; show d.val - 1 = min (d.val + 0 - 1) (4 - 1); omega

theorem after_eq (d : Fin 4) : after d = near d 2 := by
  apply Fin.ext; have := d.isLt; show min (d.val + 1) 3 = min (d.val + 2 - 1) (4 - 1); omega

/-- The plane moved right holds the lane before. -/
theorem shl_apply (a : Plane Ideal) (r : Fin 128) (l : Fin 512) : shl a (ix2 r l) = a (ix2 r (near l 0)) := by
  have hl := l.isLt
  pointwise [shl]
  split_ifs with h
  all_goals
    congr 2
    apply Fin.ext
    simp only [near_val, Fin.val_zero]
    omega

/-- The plane moved left holds the lane after. -/
theorem shr_apply (a : Plane Ideal) (r : Fin 128) (l : Fin 512) : shr a (ix2 r l) = a (ix2 r (near l 2)) := by
  have hl := l.isLt
  pointwise [shr]
  split_ifs with h
  all_goals
    congr 2
    apply Fin.ext
    simp only [near_val, Fin.val_two]
    omega

/-! ## The loaded planes -/

section Read
variable (i : grid0.Coords) (arg2 : Memref sig .tc .vmem S1x4x512x512 .f32) (harg2 : arg2.IsWhole)
  (x0 : Vec Ideal S1x4x512x512 .f32)

/-- Row `r` of the block as a row of the picture. -/
def rowIn (i : grid0.Coords) (r : Fin 128) : Fin 512 :=
  ⟨128 * (i 1).val + r.val, by have := (i 1).isLt; change (i 1).val < 4 at this; omega⟩

theorem rowIn_val (r : Fin 128) : (rowIn i r).val = 128 * (i 1).val + r.val := rfl

/-- The three planes of a slab by row shift. -/
def Slab.plane {F : FTy → Type} (a : Slab F) (q : Fin 3) : Plane F := ![a.up, a.mid, a.dn] q

/-- A slab's plane at a row shift is the picture's slab at the neighbouring row. -/
theorem plane_apply (d : Fin 4) (q : Fin 3) (r : Fin 128) (l : Fin 512) :
    (slabAt i arg2 harg2 x0 d).plane q (ix2 r l) = x0 (ix4 0 d (near (rowIn i r) q) l) := by
  have hi : (i 1).val < 4 := (i 1).isLt
  have hr := r.isLt
  have hb := base_toNat i
  have ha := above_toNat i
  have hc := below_toNat i
  fin_cases q
  · show (slabAt i arg2 harg2 x0 d).up (ix2 r l) = x0 (ix4 0 d (near (rowIn i r) 0) l)
    unfold slabAt slabOf
    pointwise [Memref.IsWhole.readAt_unread]
    split_ifs with h
    all_goals
      congr 2
      apply Fin.ext
      simp only [near_val, rowIn_val, Fin.val_zero]
      omega
  · show (slabAt i arg2 harg2 x0 d).mid (ix2 r l) = x0 (ix4 0 d (near (rowIn i r) 1) l)
    unfold slabAt slabOf
    pointwise [Memref.IsWhole.readAt_unread]
    congr 2
    apply Fin.ext
    simp only [near_val, rowIn_val, Fin.val_one]
    omega
  · show (slabAt i arg2 harg2 x0 d).dn (ix2 r l) = x0 (ix4 0 d (near (rowIn i r) 2) l)
    unfold slabAt slabOf
    pointwise [Memref.IsWhole.readAt_unread]
    split_ifs with h
    all_goals
      congr 2
      apply Fin.ext
      simp only [near_val, rowIn_val, Fin.val_two]
      omega

end Read

/-! ## The body's arithmetic at an index -/

namespace Slabs

/-- The 27 values around an index of three slabs. -/
def nbrs (s : Slabs Ideal) (j : S128x512.Idx) : Voxel.Nbrs := fun p q k =>
  let a := (![s.prev, s.cur, s.next] p).plane q
  (![shl a, a, shr a] : Fin 3 → Plane Ideal) k j

theorem nbrs_apply (s : Slabs Ideal) (r : Fin 128) (l : Fin 512) (p q k : Fin 3) :
    s.nbrs (ix2 r l) p q k = (![s.prev, s.cur, s.next] p).plane q (ix2 r (near l k)) := by
  fin_cases k
  · exact shl_apply _ r l
  · show _ = (![s.prev, s.cur, s.next] p).plane q (ix2 r (near l 1))
    rw [near_one]; rfl
  · exact shr_apply _ r l

theorem tall_apply (s : Slabs Ideal) (r : Fin 128) (l : Fin 512) (k : Fin 3) :
    s.tall (ix2 r (near l k)) = Voxel.tall (s.nbrs (ix2 r l)) k := by
  unfold Voxel.tall
  simp only [nbrs_apply]
  rfl

theorem peak_apply (s : Slabs Ideal) (r : Fin 128) (l : Fin 512) :
    s.peak (ix2 r l) = Voxel.peak (s.nbrs (ix2 r l)) := by
  show Ideal.cmp .oeq (s.cur.mid (ix2 r l))
    (max (max (s.tall (ix2 r l)) (shl s.tall (ix2 r l))) (shr s.tall (ix2 r l))) = _
  rw [shl_apply, shr_apply, tall_apply, tall_apply]
  have h := tall_apply s r l 1
  rw [near_one] at h
  rw [h]
  rfl

section Ladder
variable (s : Slabs Ideal) (j : S128x512.Idx)

theorem r0_apply : s.r0 j = Voxel.r0 (s.nbrs j) := rfl
theorem r1_apply : s.r1 j = Voxel.r1 (s.nbrs j) := rfl
theorem r2_apply : s.r2 j = Voxel.r2 (s.nbrs j) := rfl
theorem dxx_apply : s.dxx j = Voxel.dxx (s.nbrs j) := rfl
theorem dyy_apply : s.dyy j = Voxel.dyy (s.nbrs j) := rfl
theorem dss_apply : s.dss j = Voxel.dss (s.nbrs j) := rfl
theorem dxy_apply : s.dxy j = Voxel.dxy (s.nbrs j) := rfl
theorem dys_apply : s.dys j = Voxel.dys (s.nbrs j) := rfl
theorem dxs_apply : s.dxs j = Voxel.dxs (s.nbrs j) := rfl

theorem c00_apply : s.c00 j = Voxel.c00 (s.nbrs j) := by
  show s.dyy j * s.dss j - s.dys j * s.dys j = _
  rw [dyy_apply, dss_apply, dys_apply, Voxel.c00]

theorem c01_apply : s.c01 j = Voxel.c01 (s.nbrs j) := by
  show s.dxy j * s.dss j - s.dys j * s.dxs j = _
  rw [dxy_apply, dss_apply, dys_apply, dxs_apply, Voxel.c01]

theorem c02_apply : s.c02 j = Voxel.c02 (s.nbrs j) := by
  show s.dxy j * s.dys j - s.dyy j * s.dxs j = _
  rw [dxy_apply, dyy_apply, dys_apply, dxs_apply, Voxel.c02]

theorem det_apply : s.det j = Voxel.det (s.nbrs j) := by
  show s.dxx j * s.c00 j - s.dxy j * s.c01 j + s.dxs j * s.c02 j = _
  rw [dxx_apply, dxy_apply, dxs_apply, c00_apply, c01_apply, c02_apply, Voxel.det]

theorem solved_apply : s.solved j = Voxel.solved (s.nbrs j) := by
  show Ideal.cmp .ogt (max (s.det j) (-(s.det j))) (Voxel.val 0x00000000#32) = _
  rw [det_apply, Voxel.solved, Voxel.abs]

theorem inv_apply : s.inv j = Voxel.kinv (s.nbrs j) := by
  show Ideal.div (Voxel.val 0x3F800000#32) (Scalar.select (s.solved j) (s.det j) (Voxel.val 0x3F800000#32)) = _
  rw [solved_apply, det_apply, Voxel.kinv, Voxel.den]

theorem t1_apply : s.t1 j = Voxel.t1 (s.nbrs j) := by
  show s.r1 j * s.dss j - s.dys j * s.r2 j = _
  rw [r1_apply, dss_apply, dys_apply, r2_apply, Voxel.t1]

theorem t2_apply : s.t2 j = Voxel.t2 (s.nbrs j) := by
  show s.dxy j * s.r2 j - s.r1 j * s.dxs j = _
  rw [dxy_apply, r1_apply, dxs_apply, r2_apply, Voxel.t2]

theorem t3_apply : s.t3 j = Voxel.t3 (s.nbrs j) := by
  show s.r1 j * s.dys j - s.dyy j * s.r2 j = _
  rw [r1_apply, dys_apply, dyy_apply, r2_apply, Voxel.t3]

theorem sx_apply : s.sx j = Voxel.ksx (s.nbrs j) := by
  show (s.r0 j * s.c00 j - s.dxy j * s.t1 j + s.dxs j * s.t3 j) * s.inv j = _
  rw [r0_apply, c00_apply, dxy_apply, t1_apply, dxs_apply, t3_apply, inv_apply, Voxel.ksx, Voxel.numx]

theorem sy_apply : s.sy j = Voxel.ksy (s.nbrs j) := by
  show (s.dxx j * s.t1 j - s.r0 j * s.c01 j + s.dxs j * s.t2 j) * s.inv j = _
  rw [dxx_apply, t1_apply, r0_apply, c01_apply, dxs_apply, t2_apply, inv_apply, Voxel.ksy, Voxel.numy]

theorem ss_apply : s.ss j = Voxel.kss (s.nbrs j) := by
  show (Voxel.val 0x00000000#32 - s.dxx j * s.t3 j - s.dxy j * s.t2 j + s.r0 j * s.c02 j) * s.inv j = _
  rw [dxx_apply, t3_apply, dxy_apply, t2_apply, r0_apply, c02_apply, inv_apply, Voxel.kss]

end Ladder

section Voxels
variable (s : Slabs Ideal) (r : Fin 128) (l : Fin 512)

theorem found_apply : s.found (ix2 r l) = Voxel.found (s.nbrs (ix2 r l)) := by
  show s.peak (ix2 r l) &&& s.solved (ix2 r l) = _
  rw [peak_apply, solved_apply, Voxel.found]

theorem keep_apply : s.keep (ix2 r l) = Voxel.kkeep (s.nbrs (ix2 r l)) := by
  show s.found (ix2 r l) &&& (Ideal.cmp .ogt
    (max (max (max (s.sx (ix2 r l)) (-(s.sx (ix2 r l)))) (max (s.sy (ix2 r l)) (-(s.sy (ix2 r l)))))
      (max (s.ss (ix2 r l)) (-(s.ss (ix2 r l))))) (Voxel.val 0x3F333333#32) ^^^ 1#1) = _
  rw [found_apply, sx_apply, sy_apply, ss_apply, Voxel.kkeep, Voxel.abs, Voxel.abs, Voxel.abs]

/-- A component of the shift is the voxel's. -/
theorem shift_apply (v : Plane Ideal) :
    s.shift v (ix2 r l) = Voxel.kshift (s.nbrs (ix2 r l)) (v (ix2 r l)) := by
  show Scalar.select (s.keep (ix2 r l)) (Voxel.val 0x00000000#32 - v (ix2 r l)) (Voxel.val 0x00000000#32) = _
  rw [keep_apply, Voxel.kshift]

/-- The score is the voxel's. -/
theorem score_apply : s.score (ix2 r l) = Voxel.kscore (s.nbrs (ix2 r l)) := by
  show s.cur.mid (ix2 r l) + Voxel.val 0x3F000000#32 * (s.r0 (ix2 r l) * s.shift s.sx (ix2 r l)
      + s.r1 (ix2 r l) * s.shift s.sy (ix2 r l) + s.r2 (ix2 r l) * s.shift s.ss (ix2 r l))
    + Voxel.val 0x41200000#32 * ((((s.found (ix2 r l)).setWidth 32).toInt : ℝ) : EReal) = _
  rw [r0_apply, r1_apply, r2_apply, shift_apply, shift_apply, shift_apply, sx_apply, sy_apply, ss_apply,
    found_apply, Voxel.kscore]
  rfl

end Voxels

end Slabs

/-! ## What a depth of a block computes -/

section Depth
variable (i : grid0.Coords) (arg2 : Memref sig .tc .vmem S1x4x512x512 .f32) (harg2 : arg2.IsWhole)
  (x0 : Vec Ideal S1x4x512x512 .f32)

/-- The picture of a block of the input. -/
def pic (x0 : Vec Ideal S1x4x512x512 .f32) : Fin 4 → Fin 512 → Fin 512 → EReal := fun d h w => x0 (ix4 0 d h w)

theorem nbrs_slabsAt (d : Fin 4) (r : Fin 128) (l : Fin 512) :
    (slabsAt i arg2 harg2 x0 d).nbrs (ix2 r l) = nb (pic x0) d (rowIn i r) l := by
  funext p q k
  rw [Slabs.nbrs_apply]
  fin_cases p
  · show (slabAt i arg2 harg2 x0 (before d)).plane q _ = x0 (ix4 0 (near d 0) _ _)
    rw [plane_apply, before_eq]
  · show (slabAt i arg2 harg2 x0 d).plane q _ = x0 (ix4 0 (near d 1) _ _)
    rw [plane_apply, near_one]
  · show (slabAt i arg2 harg2 x0 (after d)).plane q _ = x0 (ix4 0 (near d 2) _ _)
    rw [plane_apply, after_eq]

/-- The score of a depth of a block is the voxel function of the picture's neighbours. -/
theorem score_slabsAt (d : Fin 4) (r : Fin 128) (l : Fin 512) :
    (slabsAt i arg2 harg2 x0 d).score (ix2 r l) = Voxel.kscore (nb (pic x0) d (rowIn i r) l) := by
  rw [Slabs.score_apply, nbrs_slabsAt]

theorem depthBits_val (d : Fin 4) : Voxel.val (depthBits d) = ((d.val : ℝ) : EReal) := by
  fin_cases d
  · simp [depthBits, Voxel.val, Ideal.ofBits_zero_f32]
  · simp [depthBits, Voxel.val, Ideal.ofBits_one_f32]
  · simp [depthBits, Voxel.val, Ideal.ofBits, Ideal.ieee, -EReal.coe_mul]; norm_num
  · simp [depthBits, Voxel.val, Ideal.ofBits, Ideal.ieee, -EReal.coe_mul]; norm_num

theorem toInt_ofNat (n : ℕ) (h : n < 512) : (BitVec.ofNat 32 n).toInt = n := by
  rw [BitVec.toInt_eq_toNat_of_lt] <;> rw [BitVec.toNat_ofNat, Nat.mod_eq_of_lt (by omega)]
  omega

theorem laneNo_apply (r : Fin 128) (l : Fin 512) : (laneNo : Plane Ideal) (ix2 r l) = ((l.val : ℝ) : EReal) := by
  pointwise [laneNo]
  show (((BitVec.ofNat 32 l.val).toInt : ℝ) : EReal) = _
  rw [toInt_ofNat _ l.isLt, Int.cast_natCast]

theorem rowNo_apply (r : Fin 128) (l : Fin 512) :
    (rowNo (base i) : Plane Ideal) (ix2 r l) = (((rowIn i r).val : ℝ) : EReal) := by
  pointwise [rowNo]
  have hb : base i = BitVec.ofNat 32 (128 * (i 1).val) := by
    rw [← base_toNat, BitVec.ofNat_toNat, BitVec.setWidth_eq]
  have e : BitVec.ofNat 32 r.val + base i = BitVec.ofNat 32 (rowIn i r).val := by
    rw [hb, ← BitVec.ofNat_add, rowIn_val, Nat.add_comm]
  show (((BitVec.ofNat 32 r.val + base i).toInt : ℝ) : EReal) = _
  rw [e, toInt_ofNat _ (rowIn i r).isLt, Int.cast_natCast]

/-- A coordinate of a depth of a block is the voxel's place moved by its component of the shift. -/
theorem coord_apply (d : Fin 4) (k : Fin 3) (r : Fin 128) (l : Fin 512) :
    coord i arg2 harg2 x0 d k (ix2 r l)
      = place d (rowIn i r) l k + Voxel.kshift (nb (pic x0) d (rowIn i r) l) (Voxel.ksol (nb (pic x0) d (rowIn i r) l) (comp k)) := by
  fin_cases k
  · show Voxel.val (depthBits d) + (slabsAt i arg2 harg2 x0 d).shift _ (ix2 r l) = _
    rw [Slabs.shift_apply, Slabs.ss_apply, nbrs_slabsAt, depthBits_val]
    rfl
  · show (laneNo : Plane Ideal) (ix2 r l) + (slabsAt i arg2 harg2 x0 d).shift _ (ix2 r l) = _
    rw [Slabs.shift_apply, Slabs.sx_apply, nbrs_slabsAt, laneNo_apply]
    rfl
  · show (rowNo (base i) : Plane Ideal) (ix2 r l) + (slabsAt i arg2 harg2 x0 d).shift _ (ix2 r l) = _
    rw [Slabs.shift_apply, Slabs.sy_apply, nbrs_slabsAt, rowNo_apply]
    rfl

/-! ## What a block holds -/

variable (c : Dev nD) (arg3 : Memref sig .tc .vmem S1x3x4x128x512 .f32) (harg3 : arg3.IsWhole)
  (arg4 : Memref sig .tc .vmem S1x4x128x512 .f32) (harg4 : arg4.IsWhole)

/-- The block of scores: at every depth, row and lane the voxel's score. -/
theorem out_score (d : Fin 4) (r : Fin 128) (l : Fin 512) :
    out0_A_2 c i arg2 harg2 arg3 harg3 arg4 harg4 x0 (ix4 0 d r l) = Voxel.kscore (nb (pic x0) d (rowIn i r) l) := by
  let G : S1x4x128x512.Idx → EReal := fun y => Voxel.kscore (nb (pic x0) (y 1) (rowIn i (y 2)) (y 3))
  show _ = G (ix4 0 d r l)
  refine View.read_writes_apply_of_pieces _ _ G _ ?_ _ (cover0_A_2 c i arg2 harg2 arg3 harg3 arg4 harg4 x0 _)
  rw [scorePieces]
  intro p hp z
  obtain ⟨e, -, rfl⟩ := List.mem_map.1 hp
  change S1x1x128x512.Idx at z
  idx_vars z
  unfold scorePiece
  have hE : (Rect.unit (s := S1x4x128x512) ![0, e.val, 0, 0] ![1, 1, 128, 512] (score_inb e)).emb (ix4 z0 z1 z2 z3)
      = ix4 0 e z2 z3 := by
    funext a
    apply Fin.ext
    have h0 := z0.isLt
    have h1 := z1.isLt
    fin_cases a
    · show 0 + 1 * z0.val = 0; omega
    · show e.val + 1 * z1.val = e.val; omega
    · show 0 + 1 * z2.val = z2.val; omega
    · show 0 + 1 * z3.val = z3.val; omega
  pointwise
  rw [score_slabsAt]
  exact (congrArg G hE).symm

/-- The block of coordinates: at every depth, row and lane the voxel's place moved by the shift. -/
theorem out_coord (k : Fin 3) (d : Fin 4) (r : Fin 128) (l : Fin 512) :
    out0_A_1 c i arg2 harg2 arg3 harg3 arg4 harg4 x0 (ix5 0 k d r l)
      = place d (rowIn i r) l k + Voxel.kshift (nb (pic x0) d (rowIn i r) l) (Voxel.ksol (nb (pic x0) d (rowIn i r) l) (comp k)) := by
  let G : S1x3x4x128x512.Idx → EReal := fun y => place (y 2) (rowIn i (y 3)) (y 4) (y 1)
    + Voxel.kshift (nb (pic x0) (y 2) (rowIn i (y 3)) (y 4)) (Voxel.ksol (nb (pic x0) (y 2) (rowIn i (y 3)) (y 4)) (comp (y 1)))
  show _ = G (ix5 0 k d r l)
  refine View.read_writes_apply_of_pieces _ _ G _ ?_ _ (cover0_A_1 c i arg2 harg2 arg3 harg3 arg4 harg4 x0 _)
  rw [coordPieces]
  intro p hp z
  obtain ⟨e, -, hp⟩ := List.mem_flatMap.1 hp
  obtain ⟨k', -, rfl⟩ := List.mem_map.1 hp
  change S1x1x1x128x512.Idx at z
  idx_vars z
  unfold coordPiece
  have hE : (Rect.unit (s := S1x3x4x128x512) ![0, k'.val, e.val, 0, 0] ![1, 1, 1, 128, 512] (coord_inb e k')).emb
      (ix5 z0 z1 z2 z3 z4) = ix5 0 k' e z3 z4 := by
    funext a
    apply Fin.ext
    have h0 := z0.isLt
    have h1 := z1.isLt
    have h2 := z2.isLt
    fin_cases a
    · show 0 + 1 * z0.val = 0; omega
    · show k'.val + 1 * z1.val = k'.val; omega
    · show e.val + 1 * z2.val = e.val; omega
    · show 0 + 1 * z3.val = z3.val; omega
    · show 0 + 1 * z4.val = z4.val; omega
  pointwise
  rw [coord_apply]
  exact (congrArg G hE).symm

end Depth

end Cert.Proof.Lanes

end
-- ==== Proof.Array.lean ====
module

public import proofs.«01_k».proof.Proof.Block
public import Idealize.ShloMosaic.Lib.Pipeline.Value

/-
  What the kernel's results hold at the end of a run: the blocks the grid points write back tile the two arrays, each
  block being its part of one function of the input, and the results are those arrays reshaped.
-/

@[expose] public section

set_option maxRecDepth 16384

noncomputable section

namespace Cert.Proof.Arrays

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The input of device `c`. -/
def input (c : Dev nD) : Pictures.Idx → EReal := m ((c : Thread nD τ).loc main_arg0)

/-! ## The input block -/

/-- The array the pipeline reads is the input reshaped. -/
theorem V_main_v0 (c : Dev nD) :
    V m c main_v0 = shapeCast S4x4x512x512 (input m c : Vec Ideal S4x1x4x512x512 .f32) shapeCasts_S4x1x4x512x512_S4x4x512x512 := by
  unfold V V0
  simp only [hostOps0, List.flatten_cons, List.flatten_nil, List.append_nil]
  after_results
  rfl

/-- Where the blocks of the three windows start. -/
theorem start0 (t : Fin cfg0.N) : win0_0.index t = ![(grid0.coords t 0).val, 0, 0, 0] :=
  (by decide +kernel : ∀ t : Fin grid0.N, win0_0.index t = ![(grid0.coords t 0).val, 0, 0, 0]) t
theorem start1 (t : Fin cfg0.N) : win0_1.index t = ![(grid0.coords t 0).val, 0, 0, (grid0.coords t 1).val, 0] :=
  (by decide +kernel : ∀ t : Fin grid0.N, win0_1.index t = ![(grid0.coords t 0).val, 0, 0, (grid0.coords t 1).val, 0]) t
theorem start2 (t : Fin cfg0.N) : win0_2.index t = ![(grid0.coords t 0).val, 0, (grid0.coords t 1).val, 0] :=
  (by decide +kernel : ∀ t : Fin grid0.N, win0_2.index t = ![(grid0.coords t 0).val, 0, (grid0.coords t 1).val, 0]) t

/-- The picture a grid point works on. -/
def pict (t : Fin cfg0.N) : Fin 4 := ⟨(grid0.coords t 0).val, (grid0.coords t 0).isLt⟩

/-- The input block of a grid point is its picture. -/
theorem pic_iblk (c : Dev nD) (t : Fin cfg0.N) : Lanes.pic (iblk m c 0 t) = scene (input m c) (pict t) := by
  funext d h w
  show V m c main_v0 (((cfg0.win 0).blk t).view.emb (ix4 0 d h w)) = _
  have e : ((cfg0.win 0).blk t).view.emb (ix4 (n0 := 1) (n1 := 4) (n2 := 512) (n3 := 512) 0 d h w)
      = (ix4 (pict t) d h w : S4x4x512x512.Idx) := by
    funext a
    apply Fin.ext
    have hs := start0 t
    fin_cases a
    · show win0_0.index t 0 * 1 + 1 * 0 = (grid0.coords t 0).val
      rw [hs]; simp
    · show win0_0.index t 1 * 4 + 1 * d.val = d.val
      rw [hs]; simp
    · show win0_0.index t 2 * 512 + 1 * h.val = h.val
      rw [hs]; simp
    · show win0_0.index t 3 * 512 + 1 * w.val = w.val
      rw [hs]; simp
  rw [e, V_main_v0]
  pointwise
  rfl

/-! ## The two arrays -/

/-- The array of scores before its reshape. -/
def scores (X : Pictures.Idx → EReal) : Vec Ideal S4x4x512x512 .f32 := fun y => scoreAt X (y 0) (y 1) (y 2) (y 3)
/-- The array of coordinates before its reshape. -/
def coords (X : Pictures.Idx → EReal) : Vec Ideal S4x3x4x512x512 .f32 := fun y => coordAt X (y 0) (y 1) (y 2) (y 3) (y 4)

/-- What a grid point writes back to the coordinates is its block of them. -/
theorem flushed_coords (c : Dev nD) (t : Fin cfg0.N) :
    (dats m 0 c).flushed 1 t = (win0_1.blk t).view.read (Elt Ideal) (coords (input m c)) := by
  show (cfg0.win 1).cut (grid0.coords t) ((dats m 0 c).after 1 t) = _
  rw [after0_1]
  have hO := Lanes.out_coord (grid0.coords t) (ms0_0 t) (hs0_0 t) (iblk m c 0 t) c (ms0_1 t) (hs0_1 t) (ms0_2 t) (hs0_2 t)
  simp only [outsAt0]
  generalize out0_A_1 c (grid0.coords t) (ms0_0 t) (hs0_0 t) (ms0_1 t) (hs0_1 t) (ms0_2 t) (hs0_2 t) (iblk m c 0 t) = O at hO ⊢
  funext z
  change S1x3x4x128x512.Idx at z
  idx_vars z
  show O (ix5 z0 z1 z2 z3 z4) = coords (input m c) ((win0_1.blk t).view.emb (ix5 z0 z1 z2 z3 z4))
  have e : (win0_1.blk t).view.emb (ix5 (n0 := 1) (n1 := 3) (n2 := 4) (n3 := 128) (n4 := 512) z0 z1 z2 z3 z4)
      = (ix5 (pict t) z1 z2 (Lanes.rowIn (grid0.coords t) z3) z4 : S4x3x4x512x512.Idx) := by
    funext a
    apply Fin.ext
    have hs := start1 t
    have h0 := z0.isLt
    fin_cases a
    · show win0_1.index t 0 * 1 + 1 * z0.val = (grid0.coords t 0).val
      rw [hs]; simp
    · show win0_1.index t 1 * 3 + 1 * z1.val = z1.val
      rw [hs]; simp
    · show win0_1.index t 2 * 4 + 1 * z2.val = z2.val
      rw [hs]; simp
    · show win0_1.index t 3 * 128 + 1 * z3.val = 128 * (grid0.coords t 1).val + z3.val
      rw [hs]; simp [Nat.mul_comm]
    · show win0_1.index t 4 * 512 + 1 * z4.val = z4.val
      rw [hs]; simp
  rw [e, show z0 = 0 from Subsingleton.elim _ _, hO, pic_iblk, Voxel.shift_eq]
  rfl

/-- What a grid point writes back to the scores is its block of them. -/
theorem flushed_scores (c : Dev nD) (t : Fin cfg0.N) :
    (dats m 0 c).flushed 2 t = (win0_2.blk t).view.read (Elt Ideal) (scores (input m c)) := by
  show (cfg0.win 2).cut (grid0.coords t) ((dats m 0 c).after 2 t) = _
  rw [after0_2]
  have hO := Lanes.out_score (grid0.coords t) (ms0_0 t) (hs0_0 t) (iblk m c 0 t) c (ms0_1 t) (hs0_1 t) (ms0_2 t) (hs0_2 t)
  simp only [outsAt0]
  generalize out0_A_2 c (grid0.coords t) (ms0_0 t) (hs0_0 t) (ms0_1 t) (hs0_1 t) (ms0_2 t) (hs0_2 t) (iblk m c 0 t) = O at hO ⊢
  funext z
  change S1x4x128x512.Idx at z
  idx_vars z
  show O (ix4 z0 z1 z2 z3) = scores (input m c) ((win0_2.blk t).view.emb (ix4 z0 z1 z2 z3))
  have e : (win0_2.blk t).view.emb (ix4 (n0 := 1) (n1 := 4) (n2 := 128) (n3 := 512) z0 z1 z2 z3)
      = (ix4 (pict t) z1 (Lanes.rowIn (grid0.coords t) z2) z3 : S4x4x512x512.Idx) := by
    funext a
    apply Fin.ext
    have hs := start2 t
    have h0 := z0.isLt
    fin_cases a
    · show win0_2.index t 0 * 1 + 1 * z0.val = (grid0.coords t 0).val
      rw [hs]; simp
    · show win0_2.index t 1 * 4 + 1 * z1.val = z1.val
      rw [hs]; simp
    · show win0_2.index t 2 * 128 + 1 * z2.val = 128 * (grid0.coords t 1).val + z2.val
      rw [hs]; simp [Nat.mul_comm]
    · show win0_2.index t 3 * 512 + 1 * z3.val = z3.val
      rw [hs]; simp
  rw [e, show z0 = 0 from Subsingleton.elim _ _, hO, pic_iblk, Voxel.score_eq]
  rfl

/-- Every picture and row tile is some grid point's. -/
theorem point (b h : Fin 4) : ∃ t : Fin cfg0.N, (grid0.coords t 0).val = b.val ∧ (grid0.coords t 1).val = h.val :=
  (by decide +kernel : ∀ b h : Fin 4, ∃ t : Fin grid0.N, (grid0.coords t 0).val = b.val ∧ (grid0.coords t 1).val = h.val) b h

/-- The blocks of coordinates fill their array. -/
theorem cover_coords (y : S4x3x4x512x512.Idx) :
    ∃ t : Fin cfg0.N, (cfg0.win 1).flush t = true ∧ y ∈ ((cfg0.win 1).blk t).view.set := by
  have h0 : (y 0).val < 4 := (y 0).isLt
  have h1 : (y 1).val < 3 := (y 1).isLt
  have h2 : (y 2).val < 4 := (y 2).isLt
  have h3 : (y 3).val < 512 := (y 3).isLt
  have h4 : (y 4).val < 512 := (y 4).isLt
  obtain ⟨t, e0, e1⟩ := point ⟨(y 0).val, h0⟩ ⟨(y 3).val / 128, by omega⟩
  refine ⟨t, flush0_1 t, ?_⟩
  show y ∈ ((View.whole main_v1_0).slice (win0_1.rect t)).set
  rw [View.set_slice_whole, Rect.mem_set_unit]
  have hs := start1 t
  intro a
  fin_cases a
  · show win0_1.index t 0 * 1 ≤ (y 0).val ∧ (y 0).val < win0_1.index t 0 * 1 + 1
    rw [hs]; simp [e0]
  · show win0_1.index t 1 * 3 ≤ (y 1).val ∧ (y 1).val < win0_1.index t 1 * 3 + 3
    rw [hs]; simp [h1]
  · show win0_1.index t 2 * 4 ≤ (y 2).val ∧ (y 2).val < win0_1.index t 2 * 4 + 4
    rw [hs]; simp [h2]
  · show win0_1.index t 3 * 128 ≤ (y 3).val ∧ (y 3).val < win0_1.index t 3 * 128 + 128
    rw [hs]; simp [e1]; omega
  · show win0_1.index t 4 * 512 ≤ (y 4).val ∧ (y 4).val < win0_1.index t 4 * 512 + 512
    rw [hs]; simp [h4]

/-- The blocks of scores fill their array. -/
theorem cover_scores (y : S4x4x512x512.Idx) :
    ∃ t : Fin cfg0.N, (cfg0.win 2).flush t = true ∧ y ∈ ((cfg0.win 2).blk t).view.set := by
  have h0 : (y 0).val < 4 := (y 0).isLt
  have h1 : (y 1).val < 4 := (y 1).isLt
  have h2 : (y 2).val < 512 := (y 2).isLt
  have h3 : (y 3).val < 512 := (y 3).isLt
  obtain ⟨t, e0, e1⟩ := point ⟨(y 0).val, h0⟩ ⟨(y 2).val / 128, by omega⟩
  refine ⟨t, flush0_2 t, ?_⟩
  show y ∈ ((View.whole main_v1_1).slice (win0_2.rect t)).set
  rw [View.set_slice_whole, Rect.mem_set_unit]
  have hs := start2 t
  intro a
  fin_cases a
  · show win0_2.index t 0 * 1 ≤ (y 0).val ∧ (y 0).val < win0_2.index t 0 * 1 + 1
    rw [hs]; simp [e0]
  · show win0_2.index t 1 * 4 ≤ (y 1).val ∧ (y 1).val < win0_2.index t 1 * 4 + 4
    rw [hs]; simp [h1]
  · show win0_2.index t 2 * 128 ≤ (y 2).val ∧ (y 2).val < win0_2.index t 2 * 128 + 128
    rw [hs]; simp [e1]; omega
  · show win0_2.index t 3 * 512 ≤ (y 3).val ∧ (y 3).val < win0_2.index t 3 * 512 + 512
    rw [hs]; simp [h3]

theorem final_coords (c : Dev nD) : (dats m 0 c).arrAt 1 cfg0.N = coords (input m c) :=
  (dats m 0 c).arrAt_eq_of_cover 1 (coords (input m c)) (fun t _ => flushed_coords m c t) cover_coords

theorem final_scores (c : Dev nD) : (dats m 0 c).arrAt 2 cfg0.N = scores (input m c) :=
  (dats m 0 c).arrAt_eq_of_cover 2 (scores (input m c)) (fun t _ => flushed_scores m c t) cover_scores

/-! ## The results -/

/-- The first result is the array of coordinates reshaped. -/
theorem result_coords (c : Dev nD) :
    Pipeline.afterTail₀ cfgs (dats m) 0 (V0 m) [hostOps1] c main_v2 = wantCoord (input m c) := by
  have h : Pipeline.afterTail₀ cfgs (dats m) 0 (V0 m) [hostOps1] c main_v2
      = shapeCast S4x1x3x4x512x512 (coords (input m c)) shapeCasts_S4x3x4x512x512_S4x1x3x4x512x512 := by
    unfold Pipeline.afterTail₀
    simp only [hostOps1, List.flatten_cons, List.flatten_nil, List.append_nil]
    after_results
    rw [← final_coords m c]
    exact congrArg (fun v => shapeCast S4x1x3x4x512x512 v shapeCasts_S4x3x4x512x512_S4x1x3x4x512x512)
      (Pipeline.withArrays_arr spec0 launch0.win.arr_inj c _ _ 1)
  rw [h]
  funext y
  change S4x1x3x4x512x512.Idx at y
  idx_vars y
  pointwise
  rfl

/-- The second result is the array of scores reshaped. -/
theorem result_scores (c : Dev nD) :
    Pipeline.afterTail₀ cfgs (dats m) 0 (V0 m) [hostOps1] c main_v3 = wantScore (input m c) := by
  have h : Pipeline.afterTail₀ cfgs (dats m) 0 (V0 m) [hostOps1] c main_v3
      = shapeCast S4x1x4x512x512 (scores (input m c)) shapeCasts_S4x4x512x512_S4x1x4x512x512 := by
    unfold Pipeline.afterTail₀
    simp only [hostOps1, List.flatten_cons, List.flatten_nil, List.append_nil]
    after_results
    rw [← final_scores m c]
    exact congrArg (fun v => shapeCast S4x1x4x512x512 v shapeCasts_S4x4x512x512_S4x1x4x512x512)
      (Pipeline.withArrays_arr spec0 launch0.win.arr_inj c _ _ 2)
  rw [h]
  funext y
  change S4x1x4x512x512.Idx at y
  idx_vars y
  pointwise
  rfl

/-- A run of the kernel ends with its two results at the coordinates and the scores of the input, the input unchanged. -/
theorem run : θ_run defs (onTc (τ := τ) (main (F := Ideal))) ⟨m, fun _ => 0, ρ⟩ fun r => ∀ c : Dev nD,
      r.2.mem ((c : Thread nD τ).loc main_v2) = wantCoord (input m c)
      ∧ r.2.mem ((c : Thread nD τ).loc main_v3) = wantScore (input m c)
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_coords m c),
        ((h c).2 main_v3 (Pipeline.mem_restRefs_of main_v3 (by decide) (by decide))).trans (result_scores m c),
        ((h c).2 main_arg0 (Pipeline.mem_restRefs_of main_arg0 (by decide) (by decide))).trans (W_main_arg0 m (dats m) c)⟩)
    (run_main m ρ)

end Cert.Proof.Arrays

end
-- ==== Proof.RefPad.lean ====
module

public import proofs.«01_k».proof.Proof.Want
public import proofs.«01_k».proof.Proof.Gen.ReferenceIdeal.Run

/-
  The reference's padded picture and the columns of its quadratic fit, read at a voxel.
-/

@[expose] public section

set_option maxRecDepth 16384

noncomputable section

namespace Cert.Proof.Ref

open Idealize.ShloMosaic Idealize.ShloMosaic.TcCoe
open Cert.ReferenceIdeal Cert.ReferenceIdeal.Value

variable (V : Valuation τ sig (Elt Ideal))

/-- The input as the reference reads it. -/
def arg : Pictures.Idx → EReal := V (Proc.devRef .tc main_arg0)

/-- The voxel a padded position holds: the edges repeated once. -/
def cl {n : ℕ} (x : Fin (n + 2)) (h : 0 < n) : Fin n := ⟨min (x.val - 1) (n - 1), by omega⟩

theorem cl_val {n : ℕ} (x : Fin (n + 2)) (h : 0 < n) : (cl x h).val = min (x.val - 1) (n - 1) := rfl

/-- The neighbours of a voxel are the padded positions from it on. -/
theorem near_zero_cl {n : ℕ} (x : Fin n) : near x 0 = cl ⟨x.val, by omega⟩ x.pos := by
  have h := x.pos
  apply Fin.ext; simp [near_val, cl_val]
theorem near_one_cl {n : ℕ} (x : Fin n) : near x 1 = cl ⟨1 + x.val, by omega⟩ x.pos := by
  have h := x.pos
  apply Fin.ext; simp [near_val, cl_val]
theorem near_two_cl {n : ℕ} (x : Fin n) : near x 2 = cl ⟨2 + x.val, by omega⟩ x.pos := by
  have h := x.pos
  apply Fin.ext; simp [near_val, cl_val]; omega

/-- The picture padded along the depth. -/
theorem v15_apply (b : Fin 4) (z : Fin 1) (d : Fin 6) (h w : Fin 512) :
    res_main_v15 V (ix5 b z d h w) = arg V (ix5 b 0 (cl d (by decide)) h w) := by
  have hd := d.isLt
  pointwise [res_main_v15]
  unfold arg
  split_ifs
  all_goals
    congr 2
    apply Fin.ext
    simp only [cl_val]
    omega

/-- … and along the rows. -/
theorem v18_apply (b : Fin 4) (z : Fin 1) (d : Fin 6) (h : Fin 514) (w : Fin 512) :
    res_main_v18 V (ix5 b z d h w) = arg V (ix5 b 0 (cl d (by decide)) (cl h (by decide)) w) := by
  have hh := h.isLt
  pointwise [res_main_v18, v15_apply]
  split_ifs
  all_goals
    congr 2
    apply Fin.ext
    simp only [cl_val]
    omega

/-- … and along the lanes: the padded picture. -/
theorem v21_apply (b : Fin 4) (z : Fin 1) (d : Fin 6) (h w : Fin 514) :
    res_main_v21 V (ix5 b z d h w) = scene (arg V) b (cl d (by decide)) (cl h (by decide)) (cl w (by decide)) := by
  have hw := w.isLt
  unfold scene
  pointwise [res_main_v21, v18_apply]
  split_ifs
  all_goals
    congr 2
    apply Fin.ext
    simp only [cl_val]
    omega

theorem v51_eq : res_main_v51 V = res_main_v21 V := by
  unfold res_main_v51 res_main_v48 res_main_v45 res_main_v21 res_main_v18 res_main_v15
  rfl

/-! ## The voxel of a row of the fit's matrices -/

def pb (n : Fin 4194304) : Fin 4 := ⟨n.val / 1048576, by omega⟩
def pd (n : Fin 4194304) : Fin 4 := ⟨n.val / 262144 % 4, by omega⟩
def ph (n : Fin 4194304) : Fin 512 := ⟨n.val / 512 % 512, by omega⟩
def pw (n : Fin 4194304) : Fin 512 := ⟨n.val % 512, by omega⟩

theorem pd_val (n : Fin 4194304) : (pd n).val = n.val / 262144 % 4 := rfl
theorem ph_val (n : Fin 4194304) : (ph n).val = n.val / 512 % 512 := rfl
theorem pw_val (n : Fin 4194304) : (pw n).val = n.val % 512 := rfl

/-- The neighbours of the voxel of row `n`. -/
def nbn (n : Fin 4194304) : Voxel.Nbrs := nb (scene (arg V) (pb n)) (pd n) (ph n) (pw n)

theorem nbn_apply (n : Fin 4194304) (p q k : Fin 3) :
    nbn V n p q k = scene (arg V) (pb n) (near (pd n) p) (near (ph n) q) (near (pw n) k) := rfl

/-! ## The columns -/

section Columns
variable (n : Fin 4194304)

theorem v42_0 : res_main_v42 V (ix2 n 0) = Voxel.r0 (nbn V n) := by
  pointwise [res_main_v42, v21_apply]
  simp only [Voxel.r0, nbn_apply, near_zero_cl, near_one_cl, near_two_cl, pd_val, ph_val, pw_val]
  rfl

theorem v42_1 : res_main_v42 V (ix2 n 1) = Voxel.r1 (nbn V n) := by
  pointwise [res_main_v42, v21_apply]
  simp only [Voxel.r1, nbn_apply, near_zero_cl, near_one_cl, near_two_cl, pd_val, ph_val, pw_val]
  rfl

theorem v42_2 : res_main_v42 V (ix2 n 2) = Voxel.r2 (nbn V n) := by
  pointwise [res_main_v42, v21_apply]
  simp only [Voxel.r2, nbn_apply, near_zero_cl, near_one_cl, near_two_cl, pd_val, ph_val, pw_val]
  rfl

theorem v100_0 : res_main_v100 V (ix2 n 0) = Voxel.dxx (nbn V n) := by
  pointwise [res_main_v100, res_main_v52, v51_eq, v21_apply]
  simp only [Voxel.dxx, nbn_apply, near_zero_cl, near_one_cl, near_two_cl, pd_val, ph_val, pw_val]
  rfl

theorem v100_1 : res_main_v100 V (ix2 n 1) = Voxel.dyy (nbn V n) := by
  pointwise [res_main_v100, res_main_v52, v51_eq, v21_apply]
  simp only [Voxel.dyy, nbn_apply, near_zero_cl, near_one_cl, near_two_cl, pd_val, ph_val, pw_val]
  rfl

theorem v100_2 : res_main_v100 V (ix2 n 2) = Voxel.dss (nbn V n) := by
  pointwise [res_main_v100, res_main_v52, v51_eq, v21_apply]
  simp only [Voxel.dss, nbn_apply, near_zero_cl, near_one_cl, near_two_cl, pd_val, ph_val, pw_val]
  rfl

theorem v100_3 : res_main_v100 V (ix2 n 3) = Voxel.m3 (nbn V n) := by
  pointwise [res_main_v100, res_main_v52, v51_eq, v21_apply]
  simp only [Voxel.m3, nbn_apply, near_zero_cl, near_one_cl, near_two_cl, pd_val, ph_val, pw_val]
  rfl

theorem v100_4 : res_main_v100 V (ix2 n 4) = Voxel.m4 (nbn V n) := by
  pointwise [res_main_v100, res_main_v52, v51_eq, v21_apply]
  simp only [Voxel.m4, nbn_apply, near_zero_cl, near_one_cl, near_two_cl, pd_val, ph_val, pw_val]
  rfl

theorem v100_5 : res_main_v100 V (ix2 n 5) = Voxel.m5 (nbn V n) := by
  pointwise [res_main_v100, res_main_v52, v51_eq, v21_apply]
  simp only [Voxel.m5, nbn_apply, near_zero_cl, near_one_cl, near_two_cl, pd_val, ph_val, pw_val]
  rfl

end Columns

end Cert.Proof.Ref

end
-- ==== Proof.RefPeak.lean ====
module

public import proofs.«01_k».proof.Proof.RefPad

/-
  The reference's windowed maximum: at every voxel the largest of its twenty-seven neighbours.
-/

@[expose] public section

set_option maxRecDepth 16384

noncomputable section

namespace Cert.Proof.Ref

open Idealize.ShloMosaic Idealize.ShloMosaic.TcCoe
open Cert.ReferenceIdeal Cert.ReferenceIdeal.Value

variable (V : Valuation τ sig (Elt Ideal))

/-- A fold of `max` lies under a bound exactly when its start and every term do. -/
theorem foldl_max_le {ι : Type} (g : ι → EReal) (L : List ι) (v z : EReal) :
    L.foldl (fun r n => max r (g n)) v ≤ z ↔ v ≤ z ∧ ∀ n ∈ L, g n ≤ z := by
  induction L generalizing v with
  | nil => simp
  | cons a L ih => simp [ih, and_assoc]

theorem val_bot : Ideal.ofBits .f32 0xFF800000#32 = ⊥ := by simp [Ideal.ofBits, Ideal.ieee]

/-- A windowed maximum over three by three by three positions, padded with the least value, is the largest of a voxel and
its neighbours kept inside the picture. -/
theorem window_apply (x : Pictures.Idx → EReal) (u : Shape) (init : u.Idx → EReal) (hinit : ∀ k, init k = ⊥)
    (hw : Pictures.ReduceWindows ![1, 1, 3, 3, 3] ![1, 1, 1, 1, 1] ![0, 0, 1, 1, 1] ![0, 0, 1, 1, 1] Pictures)
    (hu : 0 < u.numel) (b : Fin 4) (y : Fin 1) (d : Fin 4) (h w : Fin 512) :
    Host.reduceWindow (fun r t : EReal => max r t) ![1, 1, 3, 3, 3] ![1, 1, 1, 1, 1] ![0, 0, 1, 1, 1] ![0, 0, 1, 1, 1]
      x init hw hu (ix5 b y d h w) = Voxel.big (nb (scene x b) d h w) := by
  have hb := b.isLt
  have hy := y.isLt
  have hd := d.isLt
  have hh := h.isLt
  have hl := w.isLt
  refine eq_of_forall_ge_iff fun z => ?_
  rw [Voxel.big_le_iff]
  unfold Host.reduceWindow
  refine Iff.trans (foldl_max_le _ _ _ z) ?_
  rw [hinit]
  constructor
  · rintro ⟨-, H⟩ p q s
    have hp := p.isLt
    have hq := q.isLt
    have hs := s.isLt
    let a : (⟨5, ![1, 1, 3, 3, 3]⟩ : Shape).Idx := ix5 0 0 ⟨(near d p).val + 1 - d.val, by rw [near_val]; omega⟩
      ⟨(near h q).val + 1 - h.val, by rw [near_val]; omega⟩ ⟨(near w s).val + 1 - w.val, by rw [near_val]; omega⟩
    have e := H (Shape.rowMajor ⟨5, ![1, 1, 3, 3, 3]⟩ a) (List.mem_finRange _)
    simp only [Equiv.symm_apply_apply] at e
    rw [dif_pos] at e
    · refine le_trans (le_of_eq ?_) e
      refine congrArg x (funext fun k => Fin.ext ?_)
      fin_cases k
      · show b.val = b.val * 1 + 0 - 0; omega
      · show 0 = y.val * 1 + 0 - 0; omega
      · show (near d p).val = d.val * 1 + ((near d p).val + 1 - d.val) - 1; rw [near_val]; omega
      · show (near h q).val = h.val * 1 + ((near h q).val + 1 - h.val) - 1; rw [near_val]; omega
      · show (near w s).val = w.val * 1 + ((near w s).val + 1 - w.val) - 1; rw [near_val]; omega
    · intro k
      fin_cases k
      · show 0 ≤ b.val * 1 + 0 ∧ b.val * 1 + 0 - 0 < 4; omega
      · show 0 ≤ y.val * 1 + 0 ∧ y.val * 1 + 0 - 0 < 1; omega
      · show 1 ≤ d.val * 1 + ((near d p).val + 1 - d.val) ∧ d.val * 1 + ((near d p).val + 1 - d.val) - 1 < 4
        rw [near_val]; omega
      · show 1 ≤ h.val * 1 + ((near h q).val + 1 - h.val) ∧ h.val * 1 + ((near h q).val + 1 - h.val) - 1 < 512
        rw [near_val]; omega
      · show 1 ≤ w.val * 1 + ((near w s).val + 1 - w.val) ∧ w.val * 1 + ((near w s).val + 1 - w.val) - 1 < 512
        rw [near_val]; omega
  · refine fun H => ⟨bot_le, fun n _ => ?_⟩
    let A : (⟨5, ![1, 1, 3, 3, 3]⟩ : Shape).Idx := (Shape.rowMajor ⟨5, ![1, 1, 3, 3, 3]⟩).symm n
    have g0 : (A 0).val < 1 := (A 0).isLt
    have g1 : (A 1).val < 1 := (A 1).isLt
    split_ifs with hin
    · have h2 : 1 ≤ d.val * 1 + (A 2).val ∧ d.val * 1 + (A 2).val - 1 < 4 := hin 2
      have h3 : 1 ≤ h.val * 1 + (A 3).val ∧ h.val * 1 + (A 3).val - 1 < 512 := hin 3
      have h4 : 1 ≤ w.val * 1 + (A 4).val ∧ w.val * 1 + (A 4).val - 1 < 512 := hin 4
      refine le_trans (le_of_eq ?_) (H (A 2) (A 3) (A 4))
      refine congrArg x (funext fun k => Fin.ext ?_)
      fin_cases k
      · show b.val * 1 + (A 0).val - 0 = b.val; omega
      · show y.val * 1 + (A 1).val - 0 = 0; omega
      · show d.val * 1 + (A 2).val - 1 = min (d.val + (A 2).val - 1) (4 - 1); omega
      · show h.val * 1 + (A 3).val - 1 = min (h.val + (A 3).val - 1) (512 - 1); omega
      · show w.val * 1 + (A 4).val - 1 = min (w.val + (A 4).val - 1) (512 - 1); omega
    · exact bot_le

end Cert.Proof.Ref

end
-- ==== Proof.RefFit.lean ====
module

public import proofs.«01_k».proof.Proof.RefPeak

/-
  The reference's fit read at a row of its matrices: the determinant, the solution, the mask and the shift are the voxel
  functions of the neighbours of the row's voxel.
-/

@[expose] public section

set_option maxRecDepth 16384

noncomputable section

namespace Cert.Proof.Ref

open Idealize.ShloMosaic Idealize.ShloMosaic.TcCoe
open Cert.ReferenceIdeal Cert.ReferenceIdeal.Gen Cert.ReferenceIdeal.Value

variable (V : Valuation τ sig (Elt Ideal)) (n : Fin 4194304)

theorem v102_apply : res_main_v102 V (ix1 n) = Voxel.dxx (nbn V n) := by
  pointwise [res_main_v102, v100_0]
theorem v104_apply : res_main_v104 V (ix1 n) = Voxel.dyy (nbn V n) := by
  pointwise [res_main_v104, v100_1]
theorem v106_apply : res_main_v106 V (ix1 n) = Voxel.dss (nbn V n) := by
  pointwise [res_main_v106, v100_2]
theorem v110_apply : res_main_v110 V (ix1 n) = Voxel.dxy (nbn V n) := by
  pointwise [res_main_v110, v100_3, Voxel.dxy]
theorem v114_apply : res_main_v114 V (ix1 n) = Voxel.dys (nbn V n) := by
  pointwise [res_main_v114, v100_4, Voxel.dys]
theorem v118_apply : res_main_v118 V (ix1 n) = Voxel.dxs (nbn V n) := by
  pointwise [res_main_v118, v100_5, Voxel.dxs]
theorem v143_apply : res_main_v143 V (ix1 n) = Voxel.r0 (nbn V n) := by
  pointwise [res_main_v143, v42_0]
theorem v145_apply : res_main_v145 V (ix1 n) = Voxel.r1 (nbn V n) := by
  pointwise [res_main_v145, v42_1]
theorem v147_apply : res_main_v147 V (ix1 n) = Voxel.r2 (nbn V n) := by
  pointwise [res_main_v147, v42_2]
theorem v125_apply : res_main_v125 V (ix1 n) = Voxel.c00 (nbn V n) := by
  pointwise [res_main_v125, v104_apply, v106_apply, v114_apply, Voxel.c00]
theorem v128_apply : res_main_v128 V (ix1 n) = Voxel.c01 (nbn V n) := by
  pointwise [res_main_v128, v106_apply, v110_apply, v114_apply, v118_apply, Voxel.c01]
theorem v131_apply : res_main_v131 V (ix1 n) = Voxel.c02 (nbn V n) := by
  pointwise [res_main_v131, v104_apply, v110_apply, v114_apply, v118_apply, Voxel.c02]
theorem v136_apply : res_main_v136 V (ix1 n) = Voxel.det (nbn V n) := by
  pointwise [res_main_v136, v102_apply, v110_apply, v118_apply, v125_apply, v128_apply, v131_apply, Voxel.det]
theorem v139_apply : res_main_v139 V (ix1 n) = Voxel.solved (nbn V n) := by
  pointwise [res_main_v139, v136_apply]
  unfold Voxel.solved
  rw [Voxel.val_zero]
  rfl
theorem v141_apply : res_main_v141 V (ix1 n) = Voxel.den (nbn V n) := by
  pointwise [res_main_v141, v136_apply, v139_apply]
  unfold Voxel.den Voxel.val
  rw [Ideal.ofBits_one_f32]

/-- The mask is the voxel's. -/
theorem v184_apply : res_main_v184 V (ix1 n) = Voxel.found (nbn V n) := by
  pointwise [res_main_v184, v139_apply]
  have e := window_apply (arg V) S_ (broadcastInDim S_ ![] bcast_S_S_ (constant S_ .f32 0xFF800000#32 : FVec Ideal S_ .f32)) (fun _ => val_bot)
    reduceWindows_S4x1x4x512x512_S4x1x4x512x512_w1s1p0_0_w1s1p0_0_w3s1p1_1_w3s1p1_1_w3s1p1_1 h_S_ (pb n) 0 (pd n) (ph n) (pw n)
  have c : nbn V n 1 1 1 = arg V (ix5 (pb n) 0 (pd n) (ph n) (pw n)) := by
    rw [nbn_apply, near_one, near_one, near_one]; rfl
  unfold Voxel.found Voxel.peak
  rw [c]
  refine congrArg (· &&& Voxel.solved (nbn V n)) ?_
  exact congrArg (fun t => Ideal.cmp .oeq (arg V (ix5 (pb n) 0 (pd n) (ph n) (pw n))) t) e

/-- A maximum along rows of three, from the least value. -/
theorem rowMax {N : ℕ} {u : Shape} (x : (⟨2, ![N, 3]⟩ : Shape).Idx → EReal) (init : u.Idx → EReal) (hinit : ∀ k, init k = ⊥)
    (h : (⟨2, ![N, 3]⟩ : Shape).ReducesTo [1] ⟨1, ![N]⟩) (hu : 0 < u.numel) (r : Fin N) :
    Host.reduce (fun a b : EReal => max a b) x init h hu (ix1 r) = max (max (x (ix2 r 0)) (x (ix2 r 1))) (x (ix2 r 2)) := by
  refine eq_of_forall_ge_iff fun z => ?_
  unfold Host.reduce
  refine Iff.trans (foldl_max_le (fun k => x ((Shape.rowMajor _).symm k)) _ _ z) ?_
  rw [hinit, max_le_iff, max_le_iff]
  constructor
  · rintro ⟨-, H⟩
    have g (k : Fin 3) : x (ix2 r k) ≤ z := by
      have e := H (Shape.rowMajor _ (ix2 r k)) (by
        rw [List.mem_filter]
        refine ⟨List.mem_finRange _, ?_⟩
        rw [Equiv.symm_apply_apply, decide_eq_true_eq, h.fiber_r2_a1]
        exact ⟨k, rfl⟩)
      rwa [Equiv.symm_apply_apply] at e
    exact ⟨⟨g 0, g 1⟩, g 2⟩
  · rintro ⟨⟨g0, g1⟩, g2⟩
    refine ⟨bot_le, fun m hm => ?_⟩
    rw [List.mem_filter, decide_eq_true_eq, h.fiber_r2_a1] at hm
    obtain ⟨-, k, e⟩ := hm
    rw [← e]
    fin_cases k
    · exact g0
    · exact g1
    · exact g2

theorem v191_0 : res_main_v191 V (ix2 n 0) = Voxel.raw (nbn V n) 0 := by
  pointwise [res_main_v191, v184_apply, v143_apply, v125_apply, v110_apply, v145_apply, v106_apply, v114_apply, v147_apply,
    v118_apply, v104_apply, v141_apply]
  rfl

theorem v191_1 : res_main_v191 V (ix2 n 1) = Voxel.raw (nbn V n) 1 := by
  pointwise [res_main_v191, v184_apply, v143_apply, v128_apply, v110_apply, v145_apply, v106_apply, v114_apply, v147_apply,
    v118_apply, v102_apply, v141_apply]
  rfl

theorem v191_2 : res_main_v191 V (ix2 n 2) = Voxel.raw (nbn V n) 2 := by
  pointwise [res_main_v191, v184_apply, v143_apply, v131_apply, v110_apply, v145_apply, v104_apply, v114_apply, v147_apply,
    v118_apply, v102_apply, v141_apply]
  rfl

/-- A component of the shift before large ones are dropped. -/
theorem v191_apply (k : Fin 3) : res_main_v191 V (ix2 n k) = Voxel.raw (nbn V n) k := by
  match k with
  | 0 => exact v191_0 V n
  | 1 => exact v191_1 V n
  | 2 => exact v191_2 V n

/-- The largest component of the shift. -/
theorem reach_apply : Host.reduce FloatOps.maximumf (Host.absf (res_main_v191 V) : FVec Ideal S4194304x3 .f32)
    (constant S_ .f32 0xFF800000#32 : FVec Ideal S_ .f32) reducesTo_S4194304x3_S4194304_d1 h_S_ (ix1 n) = Voxel.reach (nbn V n) := by
  refine (rowMax _ _ (fun _ => val_bot) _ _ n).trans ?_
  unfold Voxel.reach
  rw [← v191_apply, ← v191_apply, ← v191_apply]
  rfl

/-- Rows of three whose reach is too large, set to zero. -/
def cut (R : FVec Ideal S4194304 .f32) (A : FVec Ideal S4194304x3 .f32) : FVec Ideal S4194304x3 .f32 :=
  select (broadcastInDim S4194304x3 ![0, 1] bcast_S4194304x1_S4194304x3_0_1 (cmpf .ogt
    (broadcastInDim S4194304x1 ![0] bcast_S4194304_S4194304x1_0 R)
    (broadcastInDim S4194304x1 ![] bcast_S_S4194304x1 (constant (F := Ideal) S_ .f32 0x3F333333#32))))
    (broadcastInDim S4194304x3 ![] bcast_S_S4194304x3 (id (constant (F := Ideal) S_ .f32 0x00000000#32))) A

theorem cut_apply (R : FVec Ideal S4194304 .f32) (A : FVec Ideal S4194304x3 .f32) (k : Fin 3) :
    cut R A (ix2 n k) = Scalar.select (Ideal.cmp .ogt (R (ix1 n)) (Voxel.val 0x3F333333#32)) (Voxel.val 0x00000000#32) (A (ix2 n k)) := by
  pointwise [cut]
  rw [show id (constant (F := Ideal) S_ .f32 0x00000000#32) ix0 = (0 : EReal) from Voxel.val_zero]

/-- A component of the shift. -/
theorem v197_apply (k : Fin 3) : res_main_v197 V (ix2 n k) = Voxel.rshift (nbn V n) k := by
  have e : res_main_v197 V = cut (Host.reduce FloatOps.maximumf (Host.absf (res_main_v191 V) : FVec Ideal S4194304x3 .f32)
    (constant S_ .f32 0xFF800000#32 : FVec Ideal S_ .f32) reducesTo_S4194304x3_S4194304_d1 h_S_) (res_main_v191 V) := rfl
  rw [e, cut_apply, reach_apply, v191_apply]
  rfl

end Cert.Proof.Ref

end
-- ==== Proof.RefResult.lean ====
module

public import proofs.«01_k».proof.Proof.RefFit

/-
  The reference's two results: the array of scores and the array of coordinates of the input picture.
-/

@[expose] public section

set_option maxRecDepth 16384

noncomputable section

namespace Cert.Proof.Ref

open Idealize.ShloMosaic Idealize.ShloMosaic.TcCoe
open Cert.ReferenceIdeal Cert.ReferenceIdeal.Gen Cert.ReferenceIdeal.Value

variable (V : Valuation τ sig (Elt Ideal))

/-- The row of a voxel in the reference's matrices. -/
def row (b d : Fin 4) (h w : Fin 512) : Fin 4194304 :=
  ⟨b.val * 1048576 + d.val * 262144 + h.val * 512 + w.val, by omega⟩

theorem nbn_row (b d : Fin 4) (h w : Fin 512) : nbn V (row b d h w) = nb (scene (arg V) b) d h w := by
  have e0 : pb (row b d h w) = b := Fin.ext (by show (b.val * 1048576 + d.val * 262144 + h.val * 512 + w.val) / 1048576 = b.val; omega)
  have e1 : pd (row b d h w) = d := Fin.ext (by show (b.val * 1048576 + d.val * 262144 + h.val * 512 + w.val) / 262144 % 4 = d.val; omega)
  have e2 : ph (row b d h w) = h := Fin.ext (by show (b.val * 1048576 + d.val * 262144 + h.val * 512 + w.val) / 512 % 512 = h.val; omega)
  have e3 : pw (row b d h w) = w := Fin.ext (by show (b.val * 1048576 + d.val * 262144 + h.val * 512 + w.val) % 512 = w.val; omega)
  unfold nbn
  rw [e0, e1, e2, e3]

/-! ## The score -/

/-- A sum along rows of three, from zero. -/
theorem rowSum {N : ℕ} {u : Shape} (x : FVec Ideal ⟨2, ![N, 3]⟩ .f32) (init : FVec Ideal u .f32) (hinit : ∀ k, init k = (0 : EReal))
    (h : (⟨2, ![N, 3]⟩ : Shape).ReducesTo [1] ⟨1, ![N]⟩) (hu : 0 < u.numel) (r : Fin N) :
    (Host.reduceAdd x init h hu (ix1 r) : EReal) = (x (ix2 r 0) : EReal) + x (ix2 r 1) + x (ix2 r 2) := by
  refine (Ideal.hostReduceAdd_r2_a1 h x _ (ix1 r)).trans ?_
  rw [hinit, Fin.sum_univ_three, zero_add]
  rfl

/-- The score's array, from the picture, the rows' sums and the mask. -/
def scores (X : FVec Ideal S4x1x4x512x512 .f32) (T : FVec Ideal S4194304 .f32) (M : IVec S4194304 1) : FVec Ideal S4x1x4x512x512 .f32 :=
  addf (addf X (shapeCast _ (mulf (broadcastInDim S4194304 ![] bcast_S_S4194304 (constant (F := Ideal) S_ .f32 0x3F000000#32)) T)
    shapeCasts_S4194304_S4x1x4x512x512)) (mulf (broadcastInDim S4x1x4x512x512 ![] bcast_S_S4x1x4x512x512 (constant (F := Ideal) S_ .f32 0x41200000#32))
    (uitofp .f32 (shapeCast _ M shapeCasts_S4194304_S4x1x4x512x512)))

theorem scores_apply (X : FVec Ideal S4x1x4x512x512 .f32) (T : FVec Ideal S4194304 .f32) (M : IVec S4194304 1) (b d : Fin 4) (h w : Fin 512) :
    scores X T M (ix5 b 0 d h w) = (X (ix5 b 0 d h w) : EReal) + Voxel.val 0x3F000000#32 * (T (ix1 (row b d h w)) : EReal)
      + Voxel.val 0x41200000#32 * (((M (ix1 (row b d h w))).toNat : ℝ) : EReal) := by
  pointwise [scores]
  rfl

/-! ## The coordinates -/

/-- The gather along the axis of components, at an index. -/
theorem gather_apply (x : FVec Ideal S4x1x3x4x512x512 .f32) (I : IVec S3x1 32) (b : Fin 4) (z : Fin 1) (k : Fin 3) (d : Fin 4) (h w : Fin 512) :
    Host.gather gather_S4x1x3x4x512x512_S3x1_S4x1x3x4x512x512_01345_2_n_n_2_1_4114512512 x I (ix6 b z k d h w)
      = x (ix6 b z ⟨min (I (ix2 k 0)).toInt.toNat 2, by omega⟩ d h w) := by
  unfold Host.gather
  refine congrArg x (funext fun a => Fin.ext ?_)
  match a with
  | ⟨0, _⟩ => show 0 + 0 + b.val = b.val; omega
  | ⟨1, _⟩ => show 0 + 0 + z.val = z.val; omega
  | ⟨2, _⟩ =>
    have e : gather_S4x1x3x4x512x512_S3x1_S4x1x3x4x512x512_01345_2_n_n_2_1_4114512512.siIdx (ix6 b z k d h w) ⟨0, by decide⟩ = ix2 k 0 := by
      funext c
      match c with
      | ⟨0, _⟩ => rfl
      | ⟨1, _⟩ => rfl
    show min (I (gather_S4x1x3x4x512x512_S3x1_S4x1x3x4x512x512_01345_2_n_n_2_1_4114512512.siIdx (ix6 b z k d h w) ⟨0, by decide⟩)).toInt.toNat 2 + 0 + 0 = min (I (ix2 k 0)).toInt.toNat 2
    rw [e]
    omega
  | ⟨3, _⟩ => show 0 + 0 + d.val = d.val; omega
  | ⟨4, _⟩ => show 0 + 0 + h.val = h.val; omega
  | ⟨5, _⟩ => show 0 + 0 + w.val = w.val; omega

/-- The positions of depth, lane and row. -/
def grid : FVec Ideal S4x1x3x4x512x512 .f32 :=
  broadcastInDim S4x1x3x4x512x512 ![0, 1, 2, 3, 4, 5] bcast_S1x1x3x4x512x512_S4x1x3x4x512x512_0_1_2_3_4_5 (broadcastInDim S1x1x3x4x512x512 ![0, 2, 3, 4, 5] bcast_S1x3x4x512x512_S1x1x3x4x512x512_0_2_3_4_5 (transpose S1x3x4x512x512 [0, 4, 1, 2, 3] (broadcastInDim S1x4x512x512x3 ![1, 2, 3, 4] bcast_S4x512x512x3_S1x4x512x512x3_1_2_3_4 (transpose S4x512x512x3 [0, 2, 1, 3] ((concatenate S4x512x512x3 3 [⟨S4x512x512x1, ((broadcastInDim S4x512x512x1 ![0, 1, 2] bcast_S4x512x512_S4x512x512x1_0_1_2 (broadcastInDim S4x512x512 ![0] bcast_S4_S4x512x512_0 (sitofp (F := Ideal) .f32 (iotaInDim S4 32 0)))))⟩, ⟨S4x512x512x1, ((broadcastInDim S4x512x512x1 ![0, 1, 2] bcast_S4x512x512_S4x512x512x1_0_1_2 (broadcastInDim S4x512x512 ![1] bcast_S512_S4x512x512_1 (sitofp (F := Ideal) .f32 (iotaInDim S512 32 0)))))⟩, ⟨S4x512x512x1, ((broadcastInDim S4x512x512x1 ![0, 1, 2] bcast_S4x512x512_S4x512x512x1_0_1_2 (broadcastInDim S4x512x512 ![2] bcast_S512_S4x512x512_2 (sitofp (F := Ideal) .f32 (iotaInDim S512 32 0)))))⟩] concatenates_S4x512x512x1_S4x512x512x1_S4x512x512x1_S4x512x512x3_d3)) transposes_S4x512x512x3_S4x512x512x3_0_2_1_3)) transposes_S1x4x512x512x3_S1x3x4x512x512_0_4_1_2_3))

/-- A word below 512 is the real of its number. -/
theorem sitofp_word (m : ℕ) (hm : m < 512) : FloatOps.sitofp (F := Ideal) .f32 (BitVec.ofNat 32 m) = ((m : ℝ) : EReal) := by
  show (((BitVec.ofNat 32 m).toInt : ℝ) : EReal) = _
  have e : (BitVec.ofNat 32 m).toInt = (m : ℤ) := by
    rw [BitVec.toInt_eq_toNat_of_lt] <;> simp only [BitVec.toNat_ofNat] <;> omega
  rw [e]
  norm_num

theorem grid_0 (b d : Fin 4) (h w : Fin 512) : grid (ix6 b 0 0 d h w) = place d h w 0 := by
  pointwise [grid]
  exact sitofp_word _ (by omega)
theorem grid_1 (b d : Fin 4) (h w : Fin 512) : grid (ix6 b 0 1 d h w) = place d h w 1 := by
  pointwise [grid]
  exact sitofp_word _ w.isLt
theorem grid_2 (b d : Fin 4) (h w : Fin 512) : grid (ix6 b 0 2 d h w) = place d h w 2 := by
  pointwise [grid]
  exact sitofp_word _ h.isLt

/-- A position is a number of the voxel's place. -/
theorem grid_apply (b : Fin 4) (k : Fin 3) (d : Fin 4) (h w : Fin 512) : grid (ix6 b 0 k d h w) = place d h w k := by
  match k with
  | 0 => exact grid_0 b d h w
  | 1 => exact grid_1 b d h w
  | 2 => exact grid_2 b d h w

/-- The rows of shifts as an array, the components backwards. -/
def spread (A : FVec Ideal S4194304x3 .f32) : FVec Ideal S4x1x3x4x512x512 .f32 :=
  transpose S4x1x3x4x512x512 [0, 1, 5, 2, 3, 4] (shapeCast _ (Host.reverse [1] A) shapeCasts_S4194304x3_S4x1x4x512x512x3)
    transposes_S4x1x4x512x512x3_S4x1x3x4x512x512_0_1_5_2_3_4

theorem spread_apply (A : FVec Ideal S4194304x3 .f32) (b : Fin 4) (k : Fin 3) (d : Fin 4) (h w : Fin 512) :
    spread A (ix6 b 0 k d h w) = A (ix2 (row b d h w) k.rev) := by
  pointwise [spread]
  rfl

/-- The order in which the components are taken. -/
def order : IVec S3x1 32 :=
  broadcastInDim S3x1 ![0] bcast_S3_S3x1_0 (select (cmpi .slt (fun i => lit0 (S3.rowMajor i)) (broadcastInDim S3 ![] bcast_S_S3 (constantI S_ 32 0#32)))
    (addi (fun i => lit0 (S3.rowMajor i)) (broadcastInDim S3 ![] bcast_S_S3 (constantI S_ 32 3#32))) (fun i => lit0 (S3.rowMajor i)))

theorem order_apply (k : Fin 3) : order (ix2 k 0) = (![0#32, 2#32, 1#32] : Fin 3 → BitVec 32) k := by
  fin_cases k <;> rfl

/-- The array of shifts with their components in the order of the coordinates. -/
theorem shifts_apply (A : FVec Ideal S4194304x3 .f32) (b : Fin 4) (k : Fin 3) (d : Fin 4) (h w : Fin 512) :
    Host.gather gather_S4x1x3x4x512x512_S3x1_S4x1x3x4x512x512_01345_2_n_n_2_1_4114512512 (spread A) order (ix6 b 0 k d h w)
      = A (ix2 (row b d h w) (comp k)) := by
  rw [gather_apply, spread_apply]
  refine congrArg (fun c => A (ix2 (row b d h w) c)) (Fin.ext ?_)
  simp only [order_apply]
  fin_cases k <;> rfl

/-! ## The run -/

/-- A row's sum: the gradient along the shift. -/
theorem move_apply (n : Fin 4194304) : (Host.reduceAdd (mulf (res_main_v42 V : FVec Ideal S4194304x3 .f32) (res_main_v197 V))
    (constant (F := Ideal) S_ .f32 0x00000000#32) reducesTo_S4194304x3_S4194304_d1 h_S_ (ix1 n) : EReal)
    = Voxel.r0 (nbn V n) * Voxel.rshift (nbn V n) 0 + Voxel.r1 (nbn V n) * Voxel.rshift (nbn V n) 1
      + Voxel.r2 (nbn V n) * Voxel.rshift (nbn V n) 2 := by
  refine (rowSum _ _ (fun _ => Voxel.val_zero) _ _ n).trans ?_
  rw [← v42_0, ← v42_1, ← v42_2, ← v197_apply, ← v197_apply, ← v197_apply]
  rfl

/-- The reference's array of scores is the wanted one. -/
theorem score_eq : scores (arg V) (Host.reduceAdd (mulf (res_main_v42 V : FVec Ideal S4194304x3 .f32) (res_main_v197 V))
    (constant (F := Ideal) S_ .f32 0x00000000#32) reducesTo_S4194304x3_S4194304_d1 h_S_) (res_main_v184 V) = wantScore (arg V) := by
  funext y
  change Pictures.Idx at y
  idx_vars y
  obtain rfl : y1 = 0 := Subsingleton.elim _ _
  refine (scores_apply _ _ _ y0 y2 y3 y4).trans ?_
  rw [move_apply, v184_apply, nbn_row]
  show _ = Voxel.rscore (nb (scene (arg V) y0) y2 y3 y4)
  unfold Voxel.rscore
  have c : nb (scene (arg V) y0) y2 y3 y4 1 1 1 = arg V (ix5 y0 0 y2 y3 y4) := by
    unfold nb
    rw [near_one, near_one, near_one]
    rfl
  rw [c]

/-- The reference's array of coordinates is the wanted one. -/
theorem coord_eq : addf grid (Host.gather gather_S4x1x3x4x512x512_S3x1_S4x1x3x4x512x512_01345_2_n_n_2_1_4114512512
    (spread (res_main_v197 V)) order) = wantCoord (arg V) := by
  funext y
  change Triples.Idx at y
  idx_vars y
  obtain rfl : y1 = 0 := Subsingleton.elim _ _
  show (grid (ix6 y0 0 y2 y3 y4 y5) : EReal) + (Host.gather gather_S4x1x3x4x512x512_S3x1_S4x1x3x4x512x512_01345_2_n_n_2_1_4114512512
    (spread (res_main_v197 V)) order (ix6 y0 0 y2 y3 y4 y5) : EReal) = coordAt (arg V) y0 y2 y3 y4 y5
  rw [grid_apply, shifts_apply, v197_apply, nbn_row]
  rfl

/-- The input picture of a device, from the memory. -/
def input (m : (ℓ : Loc nD τ sig) → Buf (Elt Ideal) ℓ) (c : Dev nD) : Pictures.Idx → EReal :=
  m ((c.tc : Thread nD τ).loc main_arg0)

/-- The reference, run from any memory: both results are the wanted arrays of its input, which it leaves alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v221) = wantCoord (input m c)
      ∧ r.2.mem ((c.tc : Thread nD τ).loc main_v208) = wantScore (input m c)
      ∧ r.2.mem ((c.tc : Thread nD τ).loc main_arg0) = m ((c.tc : Thread nD τ).loc main_arg0) :=
  (θ_run defs _ _).mono (fun _ h c =>
      ⟨(h c).1.trans (coord_eq (StableHlo.launchContents m c)), (h c).2.1.trans (score_eq (StableHlo.launchContents m c)), (h c).2.2⟩)
    (Cert.ReferenceIdeal.Value.run (F := Ideal) m ρ)

end Cert.Proof.Ref

end
-- ==== Proof.lean ====
/-
  The claim: the kernel, its reading over the extended reals and the reference each run and leave their argument alone
  (`frame`); the reading is the kernel's own program (`preserves`); and the reading and the reference end with equal
  results (`algebraic`): the coordinates and the scores of every voxel.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.RefResult
public import Idealize.ShloMosaic.Adequacy
public import Idealize.ShloMosaic.Init

@[expose] public section

noncomputable section

namespace Cert.Proof

open Idealize.ShloMosaic Idealize.SL.Sem

/-- The kernel runs and leaves its argument alone. -/
theorem frame_kernel : Cert.quiescent_Kernel (hKernel := Cert.Kernel.Gen.facts) :=
  fun m ρ _ => Cert.Kernel.Gen.frame m ρ

/-- The kernel read over the extended reals runs and leaves its argument alone. -/
theorem frame_ideal : Cert.quiescent_KernelIdeal (hKernelIdeal := Cert.KernelIdeal.Gen.facts) :=
  fun m ρ _ => Cert.KernelIdeal.Gen.frame m ρ

/-- The reference runs and leaves its argument alone. -/
theorem frame_reference : Cert.quiescent_ReferenceIdeal (hReferenceIdeal := Cert.ReferenceIdeal.Gen.facts) :=
  fun m ρ _ =>
    (θ_run Cert.ReferenceIdeal.defs _ _).mono
      (fun r h => ⟨fun c => (h c).2.2, Idealize.ShloMosaic.sem_eq_zero_of_no_sems (by decide) r.2⟩)
      (Cert.Proof.Ref.run m ρ)

/-- From equal inputs the kernel and the reference end with the wanted coordinates and the wanted scores. -/
theorem equal_results : Cert.algebraic_KernelIdeal_ReferenceIdeal (hKernelIdeal := Cert.KernelIdeal.Gen.facts)
    (hReferenceIdeal := Cert.ReferenceIdeal.Gen.facts) := by
  intro m ρ m' ρ' _ hag
  have e (c : Dev Cert.KernelIdeal.nD) : Ref.input m' c = Arrays.input m c := hag c
  refine ⟨fun c => wantCoord (Arrays.input m c), fun c => wantScore (Arrays.input m c), Arrays.run m ρ, ?_⟩
  refine (θ_run Cert.ReferenceIdeal.defs _ _).mono (fun r h c => ?_) (Ref.run m' ρ')
  exact ⟨(h c).1.trans (congrArg wantCoord (e c)), (h c).2.1.trans (congrArg wantScore (e c)), (h c).2.2⟩

theorem claim : Cert.Claim :=
  ⟨Cert.Kernel.Gen.facts, Cert.KernelIdeal.Gen.facts, Cert.ReferenceIdeal.Gen.facts,
    frame_kernel, frame_ideal, frame_reference, trivial, equal_results⟩

end Cert.Proof

end
